-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x384x384 : Shape := ⟨3, ![192, 384, 384]⟩
abbrev S73728x384 : Shape := ⟨2, ![73728, 384]⟩
abbrev S3072x384 : Shape := ⟨2, ![3072, 384]⟩
abbrev S8x384 : Shape := ⟨2, ![8, 384]⟩
abbrev S8x3072x384 : Shape := ⟨3, ![8, 3072, 384]⟩
abbrev S2 : Shape := ⟨1, ![2]⟩
abbrev S_ : Shape := ⟨0, ![]⟩
abbrev S1x3072x384 : Shape := ⟨3, ![1, 3072, 384]⟩
abbrev S512x384 : Shape := ⟨2, ![512, 384]⟩
abbrev S64x8x384 : Shape := ⟨3, ![64, 8, 384]⟩
abbrev S1x8x384 : Shape := ⟨3, ![1, 8, 384]⟩
abbrev S1 : Shape := ⟨1, ![1]⟩
abbrev S1x1x1 : Shape := ⟨3, ![1, 1, 1]⟩
abbrev S1x512x384 : Shape := ⟨3, ![1, 512, 384]⟩

abbrev nBuf : Space → Nat
  | .hbm => 6
  | .vmem => 9
  | .smem => 1
  | _ => 0

abbrev bufTy : (tb : Table) → Fin (tcTables nBuf tb) → BufTy
  | .hbm, ⟨0, _⟩ => ⟨S192x384x384, .f32⟩
  | .hbm, ⟨1, _⟩ => ⟨S192x384x384, .f32⟩
  | .hbm, ⟨2, _⟩ => ⟨S73728x384, .f32⟩
  | .hbm, ⟨3, _⟩ => ⟨S73728x384, .f32⟩
  | .hbm, ⟨4, _⟩ => ⟨S73728x384, .f32⟩
  | .hbm, ⟨5, _⟩ => ⟨S192x384x384, .f32⟩
  | .local _ .vmem, ⟨0, _⟩ => ⟨S3072x384, .f32⟩
  | .local _ .vmem, ⟨1, _⟩ => ⟨S3072x384, .f32⟩
  | .local _ .vmem, ⟨2, _⟩ => ⟨S3072x384, .f32⟩
  | .local _ .vmem, ⟨3, _⟩ => ⟨S3072x384, .f32⟩
  | .local _ .vmem, ⟨4, _⟩ => ⟨S3072x384, .f32⟩
  | .local _ .vmem, ⟨5, _⟩ => ⟨S3072x384, .f32⟩
  | .local _ .vmem, ⟨6, _⟩ => ⟨S8x384, .f32⟩
  | .local _ .vmem, ⟨7, _⟩ => ⟨S8x384, .f32⟩
  | .local _ .vmem, ⟨8, _⟩ => ⟨S8x3072x384, .f32⟩
  | .local _ .smem, ⟨0, _⟩ => ⟨S2, .f32⟩
  | _, _ => ⟨S192x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c24_i32 : BitVec 32 := 24#32
  let v3 : BitVec 1 := Scalar.cmpi .slt arg0 c24_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32 : BitVec 32 := 16#32
  let v12 : BitVec 1 := Scalar.cmpi .sge arg0 c16_i32
  let v13 : BitVec 32 := Scalar.extui v12
  let c0_i32_6 : BitVec 32 := 0#32
  let v14 : BitVec 1 := Scalar.cmpi .ne v13 c0_i32_6
  v14

def k0_off1 (i : grid0.Coords) : Fin 3 → Nat :=
  let arg0 : BitVec 32 := BitVec.ofNat 32 (i 0).val
  let c16_i32_74 : BitVec 32 := 16#32
  let v108 : BitVec 32 := Scalar.subi arg0 c16_i32_74
  let c0_i32_75 : BitVec 32 := 0#32
  let c0_i32_76 : BitVec 32 := 0#32
  ![v108.toNat, 0, 0]
def k0_cond4 (i : grid0.Coords) : BitVec 1 :=
  let arg0 : BitVec 32 := BitVec.ofNat 32 (i 0).val
  let c16_i32_72 : BitVec 32 := 16#32
  let v105 : BitVec 1 := Scalar.cmpi .sge arg0 c16_i32_72
  let v106 : BitVec 32 := Scalar.extui v105
  let c0_i32_73 : BitVec 32 := 0#32
  let v107 : BitVec 1 := Scalar.cmpi .ne v106 c0_i32_73
  v107

def k0_off2 (i : grid0.Coords) : Fin 3 → Nat :=
  let arg0 : BitVec 32 := BitVec.ofNat 32 (i 0).val
  let c16_i32_74 : BitVec 32 := 16#32
  let v108 : BitVec 32 := Scalar.subi arg0 c16_i32_74
  let c0_i32_75 : BitVec 32 := 0#32
  let c0_i32_76 : BitVec 32 := 0#32
  ![v108.toNat, 0, 0]
def k0_cond6 (i : grid0.Coords) : BitVec 1 :=
  let arg0 : BitVec 32 := BitVec.ofNat 32 (i 0).val
  let c24_i32_4 : BitVec 32 := 24#32
  let v9 : BitVec 1 := Scalar.cmpi .sge arg0 c24_i32_4
  let v10 : BitVec 32 := Scalar.extui v9
  let c0_i32_5 : BitVec 32 := 0#32
  let v11 : BitVec 1 := Scalar.cmpi .ne v10 c0_i32_5
  v11

def k0_cond8 (i : grid0.Coords) : BitVec 1 :=
  let arg0 : BitVec 32 := BitVec.ofNat 32 (i 0).val
  let c24_i32_6 : BitVec 32 := 24#32
  let v12 : BitVec 32 := Scalar.subi arg0 c24_i32_6
  let c16_i32_8 : BitVec 32 := 16#32
  let v18 : BitVec 1 := Scalar.cmpi .sge v12 c16_i32_8
  let v19 : BitVec 32 := Scalar.extui v18
  let c0_i32_9 : BitVec 32 := 0#32
  let v20 : BitVec 1 := Scalar.cmpi .ne v19 c0_i32_9
  v20

def k0_off3 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_10 : BitVec 32 := 16#32
  let v21 : BitVec 32 := Scalar.subi v12 c16_i32_10
  let v22 : Index := Scalar.indexCast v21
  let c0_11 : Index := 0#32
  let c0_12 : Index := 0#32
  ![v22.toNat, 0, 0]
def k0_off4 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_18 : BitVec 32 := 16#32
  let v36 : BitVec 32 := Scalar.subi v12 c16_i32_18
  let v37 : Index := Scalar.indexCast v36
  let c512 : Index := 512#32
  let c0_19 : Index := 0#32
  ![v37.toNat, 512, 0]
def k0_off5 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_26 : BitVec 32 := 16#32
  let v51 : BitVec 32 := Scalar.subi v12 c16_i32_26
  let v52 : Index := Scalar.indexCast v51
  let c1024 : Index := 1024#32
  let c0_27 : Index := 0#32
  ![v52.toNat, 1024, 0]
def k0_off6 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_34 : BitVec 32 := 16#32
  let v66 : BitVec 32 := Scalar.subi v12 c16_i32_34
  let v67 : Index := Scalar.indexCast v66
  let c1536 : Index := 1536#32
  let c0_35 : Index := 0#32
  ![v67.toNat, 1536, 0]
def k0_off7 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_42 : BitVec 32 := 16#32
  let v81 : BitVec 32 := Scalar.subi v12 c16_i32_42
  let v82 : Index := Scalar.indexCast v81
  let c2048 : Index := 2048#32
  let c0_43 : Index := 0#32
  ![v82.toNat, 2048, 0]
def k0_off8 (i : grid0.Coords) : Fin 3 → Nat :=
  let arg0 : BitVec 32 := BitVec.ofNat 32 (i 0).val
  let c24_i32_6 : BitVec 32 := 24#32
  let v12 : BitVec 32 := Scalar.subi arg0 c24_i32_6
  let c16_i32_50 : BitVec 32 := 16#32
  let v96 : BitVec 32 := Scalar.subi v12 c16_i32_50
  let v97 : Index := Scalar.indexCast v96
  let c2560 : Index := 2560#32
  let c0_51 : Index := 0#32
  ![v97.toNat, 2560, 0]
def k0_cond7 (i : grid0.Coords) : BitVec 1 :=
  let arg0 : BitVec 32 := BitVec.ofNat 32 (i 0).val
  let c24_i32_6 : BitVec 32 := 24#32
  let v12 : BitVec 32 := Scalar.subi arg0 c24_i32_6
  let c16_i32 : BitVec 32 := 16#32
  let v15 : BitVec 1 := Scalar.cmpi .slt v12 c16_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c24_i32 : BitVec 32 := 24#32
  let v0 : BitVec 1 := Scalar.cmpi .slt arg0 c24_i32
  let c24_i32_0 : BitVec 32 := 24#32
  let v1 : BitVec 32 := Scalar.subi arg0 c24_i32_0
  let c15_i32 : BitVec 32 := 15#32
  let v2 : BitVec 32 := Scalar.minsi v1 c15_i32
  let v3 : BitVec 32 := Scalar.select v0 arg0 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let c24_i32 : BitVec 32 := 24#32
  let v0 : BitVec 1 := Scalar.cmpi .slt arg0 c24_i32
  let c24_i32_0 : BitVec 32 := 24#32
  let v1 : BitVec 32 := Scalar.subi arg0 c24_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c24_i32 : BitVec 32 := 24#32
  let v0 : BitVec 1 := Scalar.cmpi .slt arg0 c24_i32
  let c24_i32_0 : BitVec 32 := 24#32
  let v1 : BitVec 32 := Scalar.subi arg0 c24_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S3072x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S192x384x384 : Shape := ⟨3, ![192, 384, 384]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S192x384x384, .f32⟩
  | .hbm, ⟨1, _⟩ => ⟨S192x384x384, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S192x384x384, .f32⟩
  | .hbm, ⟨8, _⟩ => ⟨S192x384x384, .i1⟩
  | .hbm, ⟨9, _⟩ => ⟨S_, .f32⟩
  | .hbm, ⟨10, _⟩ => ⟨S192x384x384, .f32⟩
  | .hbm, ⟨11, _⟩ => ⟨S192x384x384, .i1⟩
  | .hbm, ⟨12, _⟩ => ⟨S192x384x384, .f32⟩
  | .hbm, ⟨13, _⟩ => ⟨S192x384x384, .f32⟩
  | .hbm, ⟨14, _⟩ => ⟨S192x384x384, .f32⟩
  | .hbm, ⟨15, _⟩ => ⟨S192x384x384, .f32⟩
  | _, _ => ⟨S192x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_call1_v0 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Proof.Blocks.lean ====
/-
  What one grid point computes, as plain functions of the blocks it reads.

  A block is 3072 rows of 384 lanes.  In the first 24 points the kernel folds a block into two running
  8 × 384 arrays, one of least and one of greatest entries, six chunks of 512 rows one after the other
  (`foldMin`, `foldMax`).  In the last 24 points it writes a block of the picture with salt and pepper
  put in (`noisy`).  Everything here holds for any float model `F`.
-/
module

public import proofs.«01_k».proof.Proof.Gen.KernelIdeal.Skeleton
public import Idealize.ShloMosaic.Lib.VecWindow
public import Idealize.ShloMosaic.Lib.Pipeline.Value

@[expose] public section

noncomputable section

namespace Cert.KernelIdeal.Park

open Cert.KernelIdeal Cert.KernelIdeal.Gen
open Idealize.ShloMosaic

variable {F : FTy → Type} [FloatOps F]

/-! ## The running least and greatest entries -/

/-- 512 consecutive rows of a block, from row `n` on. -/
abbrev rows (n : Nat) (h : ∀ a, (![n, 0] : Fin 2 → Nat) a + S512x384.size a ≤ S3072x384.size a) (x : Vec F S3072x384 .f32) :
    Vec F S512x384 .f32 :=
  VecWindow.window x ![n, 0] S512x384.size h

/-- One chunk folded into the running least entries: row `r` of the 8 takes the chunk's rows congruent to `r` mod 8. -/
def minStep (y : Vec F S512x384 .f32) (a : Vec F S8x384 .f32) : Vec F S8x384 .f32 :=
  minimumf a (multiReduction .minimumf [0] S8x384 (shapeCast S64x8x384 y shapeCasts_S512x384_S64x8x384 : FVec F S64x8x384 .f32)
    0x7F800000#32 reduces_S64x8x384_S8x384 (.inl rfl) rfl)

/-- One chunk folded into the running greatest entries. -/
def maxStep (y : Vec F S512x384 .f32) (a : Vec F S8x384 .f32) : Vec F S8x384 .f32 :=
  maximumf a (multiReduction .maximumf [0] S8x384 (shapeCast S64x8x384 y shapeCasts_S512x384_S64x8x384 : FVec F S64x8x384 .f32)
    0xFF800000#32 reduces_S64x8x384_S8x384 (.inl rfl) rfl)

/-- A whole block folded chunk by chunk by `step`. -/
def foldBlock (step : Vec F S512x384 .f32 → Vec F S8x384 .f32 → Vec F S8x384 .f32) (x : Vec F S3072x384 .f32) (a : Vec F S8x384 .f32) :
    Vec F S8x384 .f32 :=
  step (rows 2560 inb_S3072x384_S512x384_2560_0 x) (step (rows 2048 inb_S3072x384_S512x384_2048_0 x)
    (step (rows 1536 inb_S3072x384_S512x384_1536_0 x) (step (rows 1024 inb_S3072x384_S512x384_1024_0 x)
      (step (rows 512 inb_S3072x384_S512x384_512_0 x) (step (rows 0 inb_S3072x384_S512x384_0_0 x) a)))))

abbrev foldMin (x : Vec F S3072x384 .f32) (a : Vec F S8x384 .f32) : Vec F S8x384 .f32 := foldBlock minStep x a
abbrev foldMax (x : Vec F S3072x384 .f32) (a : Vec F S8x384 .f32) : Vec F S8x384 .f32 := foldBlock maxStep x a

/-- Where the running arrays start: plus infinity and minus infinity everywhere. -/
def topInit : Vec F S8x384 .f32 := broadcast S8x384 (Scalar.ofBits .f32 0x7F800000#32 : F .f32)
def botInit : Vec F S8x384 .f32 := broadcast S8x384 (Scalar.ofBits .f32 0xFF800000#32 : F .f32)

/-- The least entry of the running array, as the kernel reduces it to one number. -/
def leastOf (a : Vec F S8x384 .f32) : F .f32 :=
  extractAt ![0, 0, 0] (shapeCast S1x1x1 (multiReduction .minimumf [1, 2] S1 (shapeCast S1x8x384 a shapeCasts_S8x384_S1x8x384 : FVec F S1x8x384 .f32)
    0x7F800000#32 reduces_S1x8x384_S1 (.inl rfl) rfl) shapeCasts_S1_S1x1x1) inpos_S1x1x1_p0_0_0

/-- The greatest entry of the running array, as the kernel reduces it to one number. -/
def greatestOf (a : Vec F S8x384 .f32) : F .f32 :=
  extractAt ![0, 0, 0] (shapeCast S1x1x1 (multiReduction .maximumf [1, 2] S1 (shapeCast S1x8x384 a shapeCasts_S8x384_S1x8x384 : FVec F S1x8x384 .f32)
    0xFF800000#32 reduces_S1x8x384_S1 (.inl rfl) rfl) shapeCasts_S1_S1x1x1) inpos_S1x1x1_p0_0_0

/-- The two numbers as the scalar memory holds them: the least first, the greatest second. -/
def pair (lo hi : F .f32) : Vec F S2 .f32 := fun j => if (j 0).val = 0 then lo else hi

/-! ## Salt and pepper -/

/-- Where the noise is above 0.9 the greatest entry, where it is below 0.1 the least, elsewhere the picture. -/
def noisy {s : Shape} (lo hi : F .f32) (x u : FVec F s .f32) : FVec F s .f32 :=
  select (cmpf .ogt u (broadcast s (Scalar.ofBits .f32 0x3F666666#32 : F .f32))) (broadcast s hi)
    (select (cmpf .olt u (broadcast s (Scalar.ofBits .f32 0x3DCCCCCD#32 : F .f32))) (broadcast s lo) x)

/-- Salt and pepper acts entry by entry, so it commutes with taking rows. -/
theorem noisy_rows (lo hi : F .f32) (x u : Vec F S3072x384 .f32) (n : Nat) (h) :
    noisy lo hi (rows n h x) (rows n h u) = rows n h (noisy lo hi x u) := rfl

/-! ## The eight parked blocks -/

/-- Parked block `k`. -/
def slab (k : Nat) (hk : k < 8) (f : Vec F S8x3072x384 .f32) : Vec F S3072x384 .f32 :=
  fun y => f (fun | 0 => ⟨k, hk⟩ | 1 => ⟨(y 0).val, (y 0).isLt⟩ | 2 => ⟨(y 1).val, (y 1).isLt⟩)

/-- The eight parked blocks with block `k` replaced by `x`. -/
def putSlab (k : Nat) (x : Vec F S3072x384 .f32) (f : Vec F S8x3072x384 .f32) : Vec F S8x3072x384 .f32 :=
  fun y => if (y 0).val = k then x (fun | 0 => ⟨(y 1).val, (y 1).isLt⟩ | 1 => ⟨(y 2).val, (y 2).isLt⟩) else f y

theorem slab_putSlab_same (k : Nat) (hk : k < 8) (x : Vec F S3072x384 .f32) (f) : slab k hk (putSlab k x f) = x := by
  funext y
  show (if k = k then _ else _) = _
  rw [if_pos rfl]
  exact congrArg x (funext fun a => by fin_cases a <;> rfl)

theorem slab_putSlab_other (k j : Nat) (hk : k < 8) (h : k ≠ j) (x : Vec F S3072x384 .f32) (f) : slab k hk (putSlab j x f) = slab k hk f := by
  funext y
  show (if k = j then _ else _) = _
  rw [if_neg h]
  rfl

/-- A rectangle of 512 rows of parked block `k`, its unit axis dropped, is those rows of the block. -/
theorem slab_rows (k : Nat) (hk : k < 8) (f : Vec F S8x3072x384 .f32) (n : Nat) (h)
    (h' : ∀ a, (![k, n, 0] : Fin 3 → Nat) a + S1x512x384.size a ≤ S8x3072x384.size a) (hc : S1x512x384.ShapeCasts S512x384) :
    shapeCast S512x384 (VecWindow.window f ![k, n, 0] S1x512x384.size h' : Vec F S1x512x384 .f32) hc = rows n h (slab k hk f) := by
  funext y
  refine (shapeCast_dropUnit_apply (n := 2) ![512, 384] _ _ y).trans ?_
  refine congrArg f (funext fun a => Fin.ext ?_)
  fin_cases a
  · show k + 1 * 0 = k; rfl
  · show n + 1 * (y 0).val = n + 1 * (y 0).val; rfl
  · show 0 + 1 * (y 1).val = 0 + 1 * (y 1).val; rfl

end Cert.KernelIdeal.Park

end
-- ==== Proof.Body.lean ====
/-
  The kernel's body at one grid point, case by case.

  The body takes one of six ways: it starts the running least and greatest entries and folds a block
  (the first point); folds a block; folds a block while a transfer parks it in scratch memory; turns
  over (reduces the running entries to two numbers, then writes the first output block); writes an output block
  from a fetched picture block; writes one from a parked block.  Each is stated for any staging
  buffers, any block contents and any float model.
-/
module

public import proofs.«01_k».proof.Proof.Blocks
public import proofs.«01_k».proof.Proof.Gen.KernelIdeal.Frame
public import Idealize.ShloMosaic.Lib.Tactic
public import Idealize.ShloMosaic.Lib.Pipeline.Kit
public import Idealize.ShloMosaic.Lib.Pipeline.TableIdle

@[expose] public section

noncomputable section

namespace Cert.KernelIdeal.Park

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Memref `M` of core `c` held whole, reading `X`. -/
abbrev has (c : Dev nD) {sp : Space} {S : Shape} {e : EltTy} (M : Memref sig .tc sp S e) (X : S.Idx → Elt F e) : sProp 𝕄 :=
  owns (c : Thread nD τ) M fullShare X

/-- The kernel's scratch: the running least entries, the running greatest entries, the parked blocks, the two numbers. -/
abbrev scMin : Memref sig .tc .vmem S8x384 .f32 := Memref.whole cc0_scratch0
abbrev scMax : Memref sig .tc .vmem S8x384 .f32 := Memref.whole cc0_scratch1
abbrev scPark : Memref sig .tc .vmem S8x3072x384 .f32 := Memref.whole cc0_scratch2
abbrev scPair : Memref sig .tc .smem S2 .f32 := Memref.whole cc0_scratch3

/-- The kernel's own transfer counter, at zero. -/
abbrev idleDma (c : Dev nD) : sProp 𝕄 := semVal ((c : Thread nD τ), .dma 6) 0

/-- The point is the first one. -/
abbrev isFirst (i : grid0.Coords) : Prop :=
  Scalar.cmpi .ne (Scalar.extui (Scalar.cmpi .eq (BitVec.ofNat 32 (i 0).val) 0#32) : BitVec 32) 0#32 = 1#1
/-- The point is the first of the second half. -/
abbrev isTurn (i : grid0.Coords) : Prop :=
  Scalar.cmpi .ne (Scalar.extui (Scalar.cmpi .eq (BitVec.ofNat 32 (i 0).val) 24#32) : BitVec 32) 0#32 = 1#1

variable (c : Dev nD) (i : grid0.Coords)
  (M0 : Memref sig .tc .vmem S3072x384 .f32) (w0 : M0.IsWhole)
  (M1 : Memref sig .tc .vmem S3072x384 .f32) (w1 : M1.IsWhole)
  (M2 : Memref sig .tc .vmem S3072x384 .f32) (w2 : M2.IsWhole)

/-- The body on staging buffers `M0` (picture), `M1` (noise), `M2` (output) and the kernel's scratch. -/
abbrev bodyOf : Prog (TpuEff nD τ sig (Elt F) Λ₀ .tc) PUnit :=
  cc0__sp_kernel i M0 w0 M1 w1 M2 w2 (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4

/-- What the body runs in. -/
abbrev runs (Q : PUnit → sProp 𝕄) : sProp 𝕄 :=
  wp frame (wpE (defs₀ (F := F)) Variants.none c none) Set.univ (bodyOf (F := F) i M0 w0 M1 w1 M2 w2) Q

/-- Held contents read as `X` when the run's contents do. -/
theorem has_intro {sp : Space} {S : Shape} {e : EltTy} (M : Memref sig .tc sp S e) (X : S.Idx → Elt F e)
    (f : Buf (Elt F) (M.view.loc (c : Thread nD τ))) (h : M.view.read (Elt F) f = X) :
    (M.view.loc (c : Thread nD τ) ↦[M.view.set]{fullShare} f) ⊢ (has c M X : sProp 𝕄) := by
  unfold has owns; iintro H; iexists f; isplitr
  · ipureintro; exact h
  · iexact H

/-- A load of a whole 8 × 384 scratch array after a store of the whole of it reads what was stored. -/
theorem cov8 {sp : Space} (v : View sig .tc sp S8x384 .f32) (h h') (x : Vec F S8x384 .f32) (L : List (View.Piece (Elt F) S8x384 .f32)) :
    v.readCov (⟨Rect.unit ![0, 0] S8x384.size h, x⟩ :: L) (Rect.unit ![0, 0] S8x384.size h').toLoadRect = x :=
  View.readCov_full v h' h x L

/-- A load of a whole 8 × 384 scratch array reads what it holds. -/
theorem load8 {sp : Space} (v : View sig .tc sp S8x384 .f32) (h) (x : Vec F S8x384 .f32) :
    v.readAt (Elt F) (Rect.unit ![0, 0] S8x384.size h).toLoadRect (v.rep x) = x :=
  View.readAt_rep_full v x h

/-- A load of 512 rows of a block. -/
theorem load512 {sp : Space} (v : View sig .tc sp S3072x384 .f32) (n : Nat) (h : ∀ a, (![n, 0] : Fin 2 → Nat) a + S512x384.size a ≤ S3072x384.size a)
    (x : Vec F S3072x384 .f32) :
    v.readAt (Elt F) (Rect.unit (s := S3072x384) ![n, 0] S512x384.size h).toLoadRect (v.rep x) = rows n h x :=
  View.readAt_rep_unit v x h rfl h

/-- The six stores to the running least entries each fold one chunk in. -/
theorem pay_min (y : Vec F S512x384 .f32) (a : Vec F S8x384 .f32) : k0_pay9 y a = minStep y a ∧ k0_pay12 y a = minStep y a
    ∧ k0_pay16 y a = minStep y a ∧ k0_pay19 y a = minStep y a ∧ k0_pay23 y a = minStep y a ∧ k0_pay26 y a = minStep y a := by
  simp only [k0_pay8, k0_pay9, k0_pay11, k0_pay12, k0_pay15, k0_pay16, k0_pay18, k0_pay19, k0_pay22, k0_pay23, k0_pay25, k0_pay26, minStep, shapeCast_self, and_self]

/-- The six stores to the running greatest entries each fold one chunk in. -/
theorem pay_max (y : Vec F S512x384 .f32) (a : Vec F S8x384 .f32) : k0_pay10 y a = maxStep y a ∧ k0_pay14 (k0_pay13 y a) = maxStep y a
    ∧ k0_pay17 y a = maxStep y a ∧ k0_pay21 (k0_pay20 y a) = maxStep y a ∧ k0_pay24 y a = maxStep y a ∧ k0_pay27 y a = maxStep y a := by
  simp only [k0_pay8, k0_pay10, k0_pay11, k0_pay13, k0_pay14, k0_pay15, k0_pay17, k0_pay18, k0_pay20, k0_pay21, k0_pay22, k0_pay24, k0_pay25, k0_pay27, maxStep,
    shapeCast_self, and_self]

/-- The two stores that set the running arrays. -/
theorem pay_init : (k0_pay1 : FVec F S8x384 .f32) = topInit ∧ (k0_pay2 : FVec F S8x384 .f32) = botInit := by
  simp only [k0_pay1, k0_pay2, topInit, botInit, shapeCast_self, and_self]

/-- A point of the first half but the first, with no parking: the block is folded in. -/
theorem run_fold (h1 : ¬ isFirst i) (h2 : k0_cond2 i = 1#1) (h3 : ¬ k0_cond3 i = 1#1) (h4 : ¬ k0_cond4 i = 1#1)
    (h5 : ¬ isTurn i) (h6 : ¬ k0_cond6 i = 1#1) (X0 : Vec F S3072x384 .f32) (a b : Vec F S8x384 .f32) :
    iprop(has c M0 X0 ∗ has c scMin a ∗ has c scMax b)
    ⊢ runs (F := F) c i M0 w0 M1 w1 M2 w2 fun _ => iprop(has c M0 X0 ∗ has c scMin (foldMin X0 a) ∗ has c scMax (foldMax X0 b)) := by
  unfold has
  rw [owns_eq_rep, owns_eq_rep, owns_eq_rep]
  iintro ⟨H0, Hs0, Hs1⟩
  unfold runs bodyOf; sl_unfold [cc0__sp_kernel]
  sl_exec
  sl_step
  isplitl [H0]; · iexact H0
  isplitl [Hs0]
  · iapply has_intro c scMin _ _ ?_ $$ Hs0
    rw [View.read_writes_full]
    sl_unfold_words
    rw [cov8, cov8, cov8, cov8, cov8, load8, load512, load512, load512, load512, load512, load512]
    simp only [pay_min]
    rfl
  · iapply has_intro c scMax _ _ ?_ $$ Hs1
    rw [View.read_writes_full]
    sl_unfold_words
    rw [cov8, cov8, cov8, cov8, cov8, load8, load512, load512, load512, load512, load512, load512]
    simp only [pay_max]
    rfl

/-- The first point: the running arrays are set to plus and minus infinity, and the block is folded in. -/
theorem run_first (h1 : isFirst i) (h2 : k0_cond2 i = 1#1) (h3 : ¬ k0_cond3 i = 1#1) (h4 : ¬ k0_cond4 i = 1#1)
    (h5 : ¬ isTurn i) (h6 : ¬ k0_cond6 i = 1#1) (X0 : Vec F S3072x384 .f32) (a b : Vec F S8x384 .f32) :
    iprop(has c M0 X0 ∗ has c scMin a ∗ has c scMax b)
    ⊢ runs (F := F) c i M0 w0 M1 w1 M2 w2 fun _ => iprop(has c M0 X0 ∗ has c scMin (foldMin X0 topInit) ∗ has c scMax (foldMax X0 botInit)) := by
  unfold has
  rw [owns_eq_rep, owns_eq_rep, owns_eq_rep]
  iintro ⟨H0, Hs0, Hs1⟩
  unfold runs bodyOf; sl_unfold [cc0__sp_kernel]
  sl_exec
  sl_step
  isplitl [H0]; · iexact H0
  isplitl [Hs0]
  · iapply has_intro c scMin _ _ ?_ $$ Hs0
    rw [View.read_writes_full]
    sl_unfold_words
    rw [cov8, cov8, cov8, cov8, cov8, cov8, load512, load512, load512, load512, load512, load512]
    simp only [pay_min, pay_init]
    rfl
  · iapply has_intro c scMax _ _ ?_ $$ Hs1
    rw [View.read_writes_full]
    sl_unfold_words
    rw [cov8, cov8, cov8, cov8, cov8, cov8, load512, load512, load512, load512, load512, load512]
    simp only [pay_max, pay_init]
    rfl

/-- A store through a unit-stride rectangle read at another shape puts the payload, reshaped, at the rectangle. -/
theorem store_reshaped {sp : Space} {s s' : Shape} (v : View sig .tc sp s .f32) (x : s.Idx → Elt F .f32) {off off' size : Fin s.rank → Nat}
    (hb : ∀ a, off a + size a ≤ s.size a) (h : off = off') (hn : s'.numel = (Rect.unit off size hb).shape.numel) (w : s'.Idx → Elt F .f32) :
    v.read (Elt F) (((v.slice (Rect.unit off size hb)).reshape s' hn).write (Elt F) (v.rep x) w Finset.univ)
      = VecWindow.put x off' size (fun z => w ((Shape.reshapeEquiv hn).symm z)) := by
  rw [View.write_reshape_univ, ← View.writes_singleton]
  exact View.read_writes_rep_unit v x hb _ h

/-- What the transfer leaves in the parked blocks: block `k` replaced. -/
theorem store_park (k : Nat) (off : Fin 3 → Nat) (h : off = ![k, 0, 0]) (hb : ∀ a, off a + S1x3072x384.size a ≤ S8x3072x384.size a)
    (hq : (Rect.unit (s := S8x3072x384) off S1x3072x384.size hb).shape.Squeezes S3072x384) (x : Vec F S3072x384 .f32) (fp : Vec F S8x3072x384 .f32) :
    scPark.view.read (Elt F) (View.write (Elt F) ((scPark.slice (Rect.unit (s := S8x3072x384) off S1x3072x384.size hb) (fun _ => rfl)).squeeze S3072x384 hq).view
      (scPark.view.rep fp) x Finset.univ) = putSlab k x fp := by
  refine (store_reshaped scPark.view fp hb h hq.numel_eq x).trans ?_
  funext y
  have hy1 : (y 1).val < 3072 := (y 1).isLt
  have hy2 : (y 2).val < 384 := (y 2).isLt
  unfold VecWindow.put putSlab
  by_cases e : (y 0).val = k
  · have hin : ∀ a, (![k, 0, 0] : Fin 3 → Nat) a ≤ (y a).val ∧ (y a).val < (![k, 0, 0] : Fin 3 → Nat) a + S1x3072x384.size a := by
      intro a; fin_cases a
      · exact ⟨by show k ≤ (y 0).val; omega, by show (y 0).val < k + 1; omega⟩
      · exact ⟨Nat.zero_le _, by show (y 1).val < 0 + 3072; omega⟩
      · exact ⟨Nat.zero_le _, by show (y 2).val < 0 + 384; omega⟩
    rw [dif_pos hin, if_pos e]
    refine congrArg x ((Equiv.symm_apply_eq _).mpr ?_)
    refine Eq.trans ?_ (Shape.reshapeEquiv_cons_one (n := 2) (d := ![3072, 384]) hq.numel_eq _).symm
    funext a; refine Fin.ext ?_
    fin_cases a
    · show (y 0).val - k = 0; omega
    · show (y 1).val - 0 = (y 1).val; omega
    · show (y 2).val - 0 = (y 2).val; omega
  · rw [dif_neg (fun hin => e (by have := hin 0; change k ≤ (y 0).val ∧ (y 0).val < k + 1 at this; omega)), if_neg e]

/-- A point of the first half that also parks its block. -/
theorem run_store (h1 : ¬ isFirst i) (h2 : k0_cond2 i = 1#1) (h3 : k0_cond3 i = 1#1) (h4 : k0_cond4 i = 1#1)
    (h5 : ¬ isTurn i) (h6 : ¬ k0_cond6 i = 1#1) (k : Nat) (hk : k < 8) (o1 : k0_off1 i = ![k, 0, 0]) (W : Waits sig Unit)
    (X0 : Vec F S3072x384 .f32) (a b : Vec F S8x384 .f32) (fp : Vec F S8x3072x384 .f32) :
    iprop(has c M0 X0 ∗ has c scMin a ∗ has c scMax b ∗ has c scPark fp ∗ idleDma c ∗ owes (c : Thread nD τ) 0 W)
    ⊢ runs (F := F) c i M0 w0 M1 w1 M2 w2 fun _ => iprop(has c M0 X0 ∗ has c scMin (foldMin X0 a) ∗ has c scMax (foldMax X0 b)
        ∗ has c scPark (putSlab k X0 fp) ∗ idleDma c ∗ ∃ W', owes (c : Thread nD τ) 0 W') := by
  unfold has
  rw [owns_eq_rep, owns_eq_rep, owns_eq_rep, owns_eq_rep]
  iintro ⟨H, Hs0, Hs1, Hs2, Hd, HO⟩
  ihave H' := (pointsTo_share (PosShare.mem_left_op_right fullShare)).1 $$ H
  icases H' with ⟨H0, H0'⟩
  unfold runs bodyOf; sl_unfold [cc0__sp_kernel]
  sl_exec
  sl_step
  isplitl [H0 H0']
  · iapply (pointsTo_share (PosShare.mem_left_op_right fullShare)).2
    isplitl [H0]; · iexact H0
    iexact H0'
  isplitl [Hs0]
  · iapply has_intro c scMin _ _ ?_ $$ Hs0
    rw [View.read_writes_full]
    sl_unfold_words
    rw [cov8, cov8, cov8, cov8, cov8, load8, load512, load512, load512, load512, load512, load512]
    simp only [pay_min]
    rfl
  isplitl [Hs1]
  · iapply has_intro c scMax _ _ ?_ $$ Hs1
    rw [View.read_writes_full]
    sl_unfold_words
    rw [cov8, cov8, cov8, cov8, cov8, load8, load512, load512, load512, load512, load512, load512]
    simp only [pay_max]
    rfl
  isplitl [Hs2]
  · iapply has_intro c scPark _ _ ?_ $$ Hs2
    sl_unfold_words
    rw [View.read_rep]
    exact store_park k _ o1 _ _ X0 fp
  isplitl [Hd]; · iexact Hd
  iexists _; iexact HO

/-! ## Points of the second half -/

/-- Six stores of 512 rows each leave the block whose rows they hold. -/
theorem six_rows (v : View sig .tc .vmem S3072x384 .f32) (f : v.ty.Contents (Elt F)) (y : Vec F S3072x384 .f32)
    (p0 p1 p2 p3 p4 p5 : Vec F S512x384 .f32)
    (e5 : p5 = rows 2560 inb_S3072x384_S512x384_2560_0 y) (e4 : p4 = rows 2048 inb_S3072x384_S512x384_2048_0 y)
    (e3 : p3 = rows 1536 inb_S3072x384_S512x384_1536_0 y) (e2 : p2 = rows 1024 inb_S3072x384_S512x384_1024_0 y)
    (e1 : p1 = rows 512 inb_S3072x384_S512x384_512_0 y) (e0 : p0 = rows 0 inb_S3072x384_S512x384_0_0 y) :
    v.read (Elt F) (v.writes (Elt F) f [
      ⟨Rect.unit (s := S3072x384) ![2560, 0] S512x384.size inb_S3072x384_S512x384_2560_0, p5⟩,
      ⟨Rect.unit (s := S3072x384) ![2048, 0] S512x384.size inb_S3072x384_S512x384_2048_0, p4⟩,
      ⟨Rect.unit (s := S3072x384) ![1536, 0] S512x384.size inb_S3072x384_S512x384_1536_0, p3⟩,
      ⟨Rect.unit (s := S3072x384) ![1024, 0] S512x384.size inb_S3072x384_S512x384_1024_0, p2⟩,
      ⟨Rect.unit (s := S3072x384) ![512, 0] S512x384.size inb_S3072x384_S512x384_512_0, p1⟩,
      ⟨Rect.unit (s := S3072x384) ![0, 0] S512x384.size inb_S3072x384_S512x384_0_0, p0⟩]) = y := by
  subst e0 e1 e2 e3 e4 e5
  funext z
  refine View.read_writes_apply_of_pieces v f y _ ?_ z (View.cover_of_tiled (s := S3072x384) _ ![512, 384] (by rfl) z)
  simp only [List.forall_mem_cons]
  exact ⟨fun _ => rfl, fun _ => rfl, fun _ => rfl, fun _ => rfl, fun _ => rfl, fun _ => rfl, by simp⟩

/-- A scalar read of the first of the two numbers. -/
theorem load_lo (lo hi : F .f32) (h) (z) :
    scPair.view.readAt (Elt F) (Rect.unit (s := S2) ![0] S1.size h).toLoadRect (scPair.view.rep (pair lo hi)) z = lo := by
  rw [View.readAt_rep]
  exact if_pos (by show 0 + 1 * (z 0).val = 0; have : (z 0).val < 1 := (z 0).isLt; omega)

/-- A scalar read of the second. -/
theorem load_hi (lo hi : F .f32) (h) (z) :
    scPair.view.readAt (Elt F) (Rect.unit (s := S2) ![1] S1.size h).toLoadRect (scPair.view.rep (pair lo hi)) z = hi := by
  rw [View.readAt_rep]
  exact if_neg (by show ¬ 1 + 1 * (z 0).val = 0; omega)

/-- The two scalar stores leave the pair. -/
theorem stores_pair (f : scPair.view.ty.Contents (Elt F)) (lo hi : F .f32) :
    scPair.view.read (Elt F) (scPair.view.writes (Elt F) f [
      ⟨Rect.unit (s := S2) ![1] S1.size inb_S2_S1_1, fun _ => hi⟩, ⟨Rect.unit (s := S2) ![0] S1.size inb_S2_S1_0, fun _ => lo⟩]) = pair lo hi := by
  funext z
  refine View.read_writes_apply_of_pieces scPair.view f (pair lo hi) _ ?_ z (View.cover_of_tiled (s := S2) _ ![1] (by rfl) z)
  simp only [List.forall_mem_cons]
  refine ⟨fun z => (if_neg ?_).symm, fun z => (if_pos ?_).symm, by simp⟩
  · show ¬ 1 + 1 * (z 0).val = 0; omega
  · show 0 + 1 * (z 0).val = 0; have : (z 0).val < 1 := (z 0).isLt; omega

/-- A load of 512 rows of parked block `k`, its unit axis dropped. -/
theorem load_park (k n : Nat) (hk : k < 8) (f : Vec F S8x3072x384 .f32) (off : Fin 3 → Nat) (h : off = ![k, n, 0])
    (hn : ∀ a, (![n, 0] : Fin 2 → Nat) a + S512x384.size a ≤ S3072x384.size a)
    (hb : ∀ a, off a + S1x512x384.size a ≤ S8x3072x384.size a) :
    shapeCast S512x384 (scPark.view.readAt (Elt F) (Rect.unit (s := S8x3072x384) off S1x512x384.size hb).toLoadRect (scPark.view.rep f) : Vec F S1x512x384 .f32)
      shapeCasts_S1x512x384_S512x384 = rows n hn (slab k hk f) := by
  subst h
  rw [View.readAt_rep_unit scPark.view f hb rfl hb]
  exact slab_rows k hk f n hn hb _

/-- The first point of the second half: the two numbers are computed, and the first block is written. -/
theorem run_turn (h1 : ¬ isFirst i) (h2 : ¬ k0_cond2 i = 1#1) (h5 : isTurn i) (h6 : k0_cond6 i = 1#1) (h7 : k0_cond7 i = 1#1)
    (h8 : ¬ k0_cond8 i = 1#1) (X0 X1 X2 : Vec F S3072x384 .f32) (a b : Vec F S8x384 .f32) (mm : Vec F S2 .f32) :
    iprop(has c M0 X0 ∗ has c M1 X1 ∗ has c M2 X2 ∗ has c scMin a ∗ has c scMax b ∗ has c scPair mm)
    ⊢ runs (F := F) c i M0 w0 M1 w1 M2 w2 fun _ => iprop(has c M0 X0 ∗ has c M1 X1 ∗ has c M2 (noisy (leastOf a) (greatestOf b) X0 X1)
        ∗ has c scMin a ∗ has c scMax b ∗ has c scPair (pair (leastOf a) (greatestOf b))) := by
  unfold has
  rw [owns_eq_rep, owns_eq_rep, owns_eq_rep, owns_eq_rep, owns_eq_rep, owns_eq_rep]
  iintro ⟨H0, H1, H2, Hs0, Hs1, Hs3⟩
  unfold runs bodyOf; sl_unfold [cc0__sp_kernel]
  sl_exec
  sl_step
  isplitl [H0]; · iexact H0
  isplitl [H1]; · iexact H1
  isplitl [H2]
  · iapply has_intro c M2 _ _ ?_ $$ H2
    sl_unfold_words
    rw [load8, load8]
    refine six_rows M2.view _ _ _ _ _ _ _ _ ?_ ?_ ?_ ?_ ?_ ?_ <;> rw [load512, load512] <;>
      simp only [k0_pay28, k0_pay29, k0_pay30, k0_pay31, k0_pay32, k0_pay33, k0_pay34, k0_pay35, k0_pay36, k0_pay37, k0_pay38, k0_pay5, shapeCast_self] <;> rfl
  isplitl [Hs0]; · iexact Hs0
  isplitl [Hs1]; · iexact Hs1
  · iapply has_intro c scPair _ _ ?_ $$ Hs3
    sl_unfold_words
    rw [load8, load8]
    exact stores_pair _ _ _

/-- A later point whose picture block arrives in the staging buffer: that block is written. -/
theorem run_write (h1 : ¬ isFirst i) (h2 : ¬ k0_cond2 i = 1#1) (h5 : ¬ isTurn i) (h6 : k0_cond6 i = 1#1) (h7 : k0_cond7 i = 1#1)
    (h8 : ¬ k0_cond8 i = 1#1) (X0 X1 X2 : Vec F S3072x384 .f32) (lo hi : F .f32) :
    iprop(has c M0 X0 ∗ has c M1 X1 ∗ has c M2 X2 ∗ has c scPair (pair lo hi))
    ⊢ runs (F := F) c i M0 w0 M1 w1 M2 w2 fun _ => iprop(has c M0 X0 ∗ has c M1 X1 ∗ has c M2 (noisy lo hi X0 X1) ∗ has c scPair (pair lo hi)) := by
  unfold has
  rw [owns_eq_rep, owns_eq_rep, owns_eq_rep, owns_eq_rep]
  iintro ⟨H0, H1, H2, Hs3⟩
  unfold runs bodyOf; sl_unfold [cc0__sp_kernel]
  sl_exec
  sl_step
  isplitl [H0]; · iexact H0
  isplitl [H1]; · iexact H1
  isplitl [H2]
  · iapply has_intro c M2 _ _ ?_ $$ H2
    sl_unfold_words
    rw [load_lo, load_hi]
    refine six_rows M2.view _ _ _ _ _ _ _ _ ?_ ?_ ?_ ?_ ?_ ?_ <;> rw [load512, load512] <;>
      simp only [k0_pay28, k0_pay29, k0_pay30, k0_pay31, k0_pay32, k0_pay33, k0_pay34, k0_pay35, k0_pay36, k0_pay37, k0_pay38, k0_pay5, shapeCast_self] <;> rfl
  iexact Hs3

/-- A point whose picture block is parked block `k`: that block is written. -/
theorem run_unpark (h1 : ¬ isFirst i) (h2 : ¬ k0_cond2 i = 1#1) (h5 : ¬ isTurn i) (h6 : k0_cond6 i = 1#1) (h7 : ¬ k0_cond7 i = 1#1)
    (h8 : k0_cond8 i = 1#1) (k : Nat) (hk : k < 8) (o0 : k0_off3 i = ![k, 0, 0]) (o1 : k0_off4 i = ![k, 512, 0])
    (o2 : k0_off5 i = ![k, 1024, 0]) (o3 : k0_off6 i = ![k, 1536, 0]) (o4 : k0_off7 i = ![k, 2048, 0]) (o5 : k0_off8 i = ![k, 2560, 0])
    (X1 X2 : Vec F S3072x384 .f32) (lo hi : F .f32) (fp : Vec F S8x3072x384 .f32) :
    iprop(has c M1 X1 ∗ has c M2 X2 ∗ has c scPark fp ∗ has c scPair (pair lo hi))
    ⊢ runs (F := F) c i M0 w0 M1 w1 M2 w2 fun _ => iprop(has c M1 X1 ∗ has c M2 (noisy lo hi (slab k hk fp) X1) ∗ has c scPark fp ∗ has c scPair (pair lo hi)) := by
  unfold has
  rw [owns_eq_rep, owns_eq_rep, owns_eq_rep, owns_eq_rep]
  iintro ⟨H1, H2, Hs2, Hs3⟩
  unfold runs bodyOf; sl_unfold [cc0__sp_kernel]
  sl_exec
  sl_step
  isplitl [H1]; · iexact H1
  isplitl [H2]
  · iapply has_intro c M2 _ _ ?_ $$ H2
    sl_unfold_words
    rw [load_lo, load_hi]
    refine six_rows M2.view _ _ _ _ _ _ _ _ ?_ ?_ ?_ ?_ ?_ ?_ <;> rw [load512] <;>
      simp only [k0_pay39, k0_pay40, k0_pay41, k0_pay42, k0_pay43, k0_pay44, k0_pay45, k0_pay46, k0_pay47, k0_pay6, k0_pay7, shapeCast_self]
    · exact congrArg (noisy lo hi · (rows 2560 inb_S3072x384_S512x384_2560_0 X1)) (load_park k 2560 hk fp _ o5 inb_S3072x384_S512x384_2560_0 _)
    · exact congrArg (noisy lo hi · (rows 2048 inb_S3072x384_S512x384_2048_0 X1)) (load_park k 2048 hk fp _ o4 inb_S3072x384_S512x384_2048_0 _)
    · exact congrArg (noisy lo hi · (rows 1536 inb_S3072x384_S512x384_1536_0 X1)) (load_park k 1536 hk fp _ o3 inb_S3072x384_S512x384_1536_0 _)
    · exact congrArg (noisy lo hi · (rows 1024 inb_S3072x384_S512x384_1024_0 X1)) (load_park k 1024 hk fp _ o2 inb_S3072x384_S512x384_1024_0 _)
    · exact congrArg (noisy lo hi · (rows 512 inb_S3072x384_S512x384_512_0 X1)) (load_park k 512 hk fp _ o1 inb_S3072x384_S512x384_512_0 _)
    · exact congrArg (noisy lo hi · (rows 0 inb_S3072x384_S512x384_0_0 X1)) (load_park k 0 hk fp _ o0 inb_S3072x384_S512x384_0_0 _)
  isplitl [Hs2]; · iexact Hs2
  iexact Hs3

end Cert.KernelIdeal.Park

end
-- ==== Proof.Data.lean ====
/-
  What the scratch holds before each of the 48 points, and what the body leaves in the output's buffer.

  Before point `n` the running arrays hold the fold of the first `min n 24` blocks (from the first point on),
  the parked blocks are those of the points 16 … among them, and from the end of point 24 on the two numbers
  are the least and the greatest entry (`Inv`).  One point of the grid takes this from `n` to `n + 1`
  (`step_fold`, `step_write`).
-/
module

public import proofs.«01_k».proof.Proof.Body

@[expose] public section

noncomputable section

namespace Cert.KernelIdeal.Park

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which branch each point takes -/

set_option maxRecDepth 100000 in
/-- The kernel's conditions at point `t`, as the point's number. -/
theorem branches : ∀ t : Fin grid0.N, (isFirst (grid0.coords t) ↔ t.val = 0) ∧ (k0_cond2 (grid0.coords t) = 1#1 ↔ t.val < 24)
    ∧ (k0_cond3 (grid0.coords t) = 1#1 ↔ 16 ≤ t.val) ∧ (k0_cond4 (grid0.coords t) = 1#1 ↔ 16 ≤ t.val)
    ∧ (isTurn (grid0.coords t) ↔ t.val = 24) ∧ (k0_cond6 (grid0.coords t) = 1#1 ↔ 24 ≤ t.val)
    ∧ (k0_cond7 (grid0.coords t) = 1#1 ↔ t.val < 40) ∧ (k0_cond8 (grid0.coords t) = 1#1 ↔ 40 ≤ t.val) := by
  decide +kernel

/-- Where a point of the first half parks its block. -/
theorem offset_store : ∀ t : Fin grid0.N, 16 ≤ t.val → k0_off1 (grid0.coords t) = ![t.val - 16, 0, 0] := by
  decide +kernel

/-- Where a point of the last eight reads its parked block. -/
theorem offset_load : ∀ t : Fin grid0.N, 40 ≤ t.val → k0_off3 (grid0.coords t) = ![t.val - 40, 0, 0]
    ∧ k0_off4 (grid0.coords t) = ![t.val - 40, 512, 0] ∧ k0_off5 (grid0.coords t) = ![t.val - 40, 1024, 0]
    ∧ k0_off6 (grid0.coords t) = ![t.val - 40, 1536, 0] ∧ k0_off7 (grid0.coords t) = ![t.val - 40, 2048, 0]
    ∧ k0_off8 (grid0.coords t) = ![t.val - 40, 2560, 0] := by
  decide +kernel

/-- The output's buffer is left alone in the first half. -/
theorem out_idle : ∀ t : Fin grid0.N, cfg0.idle 2 (grid0.coords t) = decide (t.val < 24) := by
  decide +kernel

/-- The output's block is written back at every point of the second half, and at none before. -/
theorem out_flush : ∀ t : Fin grid0.N, (cfg0.win 2).flush t = decide (24 ≤ t.val) := by
  decide +kernel

/-! ## What is held before each point -/

/-- Point `n` of the grid. -/
def pt (n : Nat) : Fin grid0.N := ⟨n % 48, by rw [N_0]; exact Nat.mod_lt _ (by decide)⟩

theorem pt_val (t : Fin grid0.N) : pt t.val = t := Fin.ext (Nat.mod_eq_of_lt (t.isLt.trans_eq N_0))

variable (X U : Fin grid0.N → Vec F S3072x384 .f32)

/-- The running least entries after the first `n` blocks. -/
def accMin : Nat → Vec F S8x384 .f32
  | 0 => topInit
  | n + 1 => foldMin (X (pt n)) (accMin n)

/-- The running greatest entries after the first `n` blocks. -/
def accMax : Nat → Vec F S8x384 .f32
  | 0 => botInit
  | n + 1 => foldMax (X (pt n)) (accMax n)

/-- The least entry of all. -/
def least : F .f32 := leastOf (accMin X 24)
/-- The greatest entry of all. -/
def greatest : F .f32 := greatestOf (accMax X 24)

/-- What the scratch holds before point `n`: `a`, `b` the running arrays, `p` the parked blocks, `q` the two numbers. -/
structure Inv (n : Nat) (a b : Vec F S8x384 .f32) (p : Vec F S8x3072x384 .f32) (q : Vec F S2 .f32) : Prop where
  min_eq : 0 < n → a = accMin X (min n 24)
  max_eq : 0 < n → b = accMax X (min n 24)
  parked : ∀ k (hk : k < 8), 16 + k < min n 24 → slab k hk p = X (pt (16 + k))
  numbers : 24 < n → q = pair (least X) (greatest X)

/-- The scratch before point `n`, the kernel's transfer counter at zero, and the generator register. -/
def held (c : Dev nD) (n : Nat) : sProp 𝕄 :=
  iprop(∃ a b p q, ⌜Inv X n a b p q⌝ ∗ has c scMin a ∗ has c scMax b ∗ has c scPark p ∗ has c scPair q ∗ idleDma c ∗ ∃ r, prngReg c r)

/-- The picture's block a point of the second half writes out: the fetched one, or one parked in the first half. -/
def pic (n : Nat) : Vec F S3072x384 .f32 := if n < 40 then X (pt n) else X (pt (n - 24))

/-- What the body leaves in the output's buffer. -/
def outAt (t : Fin grid0.N) : Vec F S3072x384 .f32 := noisy (least X) (greatest X) (pic X t.val) (U t)

theorem Inv.first (a b p q) (h : Inv X 0 a b p q) : Inv X 1 (foldMin (X (pt 0)) topInit) (foldMax (X (pt 0)) botInit) p q :=
  ⟨fun _ => rfl, fun _ => rfl, fun k hk h => absurd h (by omega), fun h => absurd h (by omega)⟩

theorem Inv.fold (n : Nat) (h0 : 0 < n) (h1 : n < 16) (a b p q) (h : Inv X n a b p q) :
    Inv X (n + 1) (foldMin (X (pt n)) a) (foldMax (X (pt n)) b) p q := by
  have e : min (n + 1) 24 = n + 1 := by omega
  have e' : min n 24 = n := by omega
  exact ⟨fun _ => by rw [h.min_eq h0, e, e']; rfl, fun _ => by rw [h.max_eq h0, e, e']; rfl, fun k hk h => absurd h (by omega), fun h => absurd h (by omega)⟩

theorem Inv.store (n : Nat) (h0 : 16 ≤ n) (h1 : n < 24) (a b p q) (h : Inv X n a b p q) :
    Inv X (n + 1) (foldMin (X (pt n)) a) (foldMax (X (pt n)) b) (putSlab (n - 16) (X (pt n)) p) q := by
  have e : min (n + 1) 24 = n + 1 := by omega
  have e' : min n 24 = n := by omega
  refine ⟨fun _ => by rw [h.min_eq (by omega), e, e']; rfl, fun _ => by rw [h.max_eq (by omega), e, e']; rfl, fun k hk hlt => ?_, fun h => absurd h (by omega)⟩
  by_cases ek : k = n - 16
  · subst ek; rw [slab_putSlab_same]; congr 2; omega
  · rw [slab_putSlab_other _ _ _ ek]; exact h.parked k hk (by omega)

theorem Inv.turn (a b p q) (h : Inv X 24 a b p q) : Inv X 25 a b p (pair (leastOf a) (greatestOf b)) :=
  ⟨fun _ => h.min_eq (by omega), fun _ => h.max_eq (by omega), fun k hk _ => h.parked k hk (by omega),
    fun _ => by rw [h.min_eq (by omega), h.max_eq (by omega)]; rfl⟩

theorem Inv.later (n : Nat) (hn : 24 < n) (a b p q) (h : Inv X n a b p q) : Inv X (n + 1) a b p q := by
  have e : min (n + 1) 24 = min n 24 := by omega
  exact ⟨fun _ => by rw [e]; exact h.min_eq (by omega), fun _ => by rw [e]; exact h.max_eq (by omega), fun k hk hlt => h.parked k hk (by omega),
    fun _ => h.numbers hn⟩

/-! ## One point -/

variable (c : Dev nD) (t : Fin grid0.N)
  (M0 : Memref sig .tc .vmem S3072x384 .f32) (w0 : M0.IsWhole)
  (M1 : Memref sig .tc .vmem S3072x384 .f32) (w1 : M1.IsWhole)
  (M2 : Memref sig .tc .vmem S3072x384 .f32) (w2 : M2.IsWhole)

/-- A run's post-condition weakened by what else is held. -/
theorem runs_wand (i : grid0.Coords) (Q Q' : PUnit → sProp 𝕄) :
    iprop(runs (F := F) c i M0 w0 M1 w1 M2 w2 Q ∗ (∀ a, Q a -∗ Q' a)) ⊢ runs (F := F) c i M0 w0 M1 w1 M2 w2 Q' :=
  wp_wand_r _ _ _

/-- A point of the first half: the block is folded in, and parked from point 16 on. -/
theorem step_fold (ht : t.val < 24) :
    iprop(held X c t.val ∗ (∃ W, owes (c : Thread nD τ) 0 W) ∗ has c M0 (X t))
    ⊢ runs (F := F) c (grid0.coords t) M0 w0 M1 w1 M2 w2 fun _ =>
        iprop(held X c (t.val + 1) ∗ (∃ W, owes (c : Thread nD τ) 0 W) ∗ has c M0 (X t)) := by
  obtain ⟨b1, b2, b3, b4, b5, b6, b7, b8⟩ := branches t
  unfold held
  iintro ⟨⟨%a, %b, %p, %q, %hI, Ha, Hb, Hp, Hq, Hd, Hr⟩, ⟨%W, HO⟩, H0⟩
  have hx : X (pt t.val) = X t := by rw [pt_val]
  by_cases h0 : t.val = 0
  · rw [h0] at hI hx
    have hJ := hI.first
    rw [hx] at hJ
    iapply runs_wand
    isplitl [H0 Ha Hb]
    · iapply run_first c (grid0.coords t) M0 w0 M1 w1 M2 w2 (b1.mpr h0) (b2.mpr ht) (by rw [b3]; omega) (by rw [b4]; omega) (by rw [b5]; omega) (by rw [b6]; omega) (X t) a b
      isplitl [H0]; · iexact H0
      isplitl [Ha]; · iexact Ha
      iexact Hb
    iintro %_u ⟨H0, Ha, Hb⟩
    isplitl [Ha Hb Hp Hq Hd Hr]
    · iexists _, _, _, _
      isplitr; · ipureintro; rw [h0]; exact hJ
      isplitl [Ha]; · iexact Ha
      isplitl [Hb]; · iexact Hb
      isplitl [Hp]; · iexact Hp
      isplitl [Hq]; · iexact Hq
      isplitl [Hd]; · iexact Hd
      iexact Hr
    isplitl [HO]; · iexists W; iexact HO
    iexact H0
  by_cases h1 : t.val < 16
  · have hJ := hI.fold X t.val (by omega) h1
    rw [hx] at hJ
    iapply runs_wand
    isplitl [H0 Ha Hb]
    · iapply run_fold c (grid0.coords t) M0 w0 M1 w1 M2 w2 (by rw [b1]; omega) (b2.mpr ht) (by rw [b3]; omega) (by rw [b4]; omega) (by rw [b5]; omega) (by rw [b6]; omega) (X t) a b
      isplitl [H0]; · iexact H0
      isplitl [Ha]; · iexact Ha
      iexact Hb
    iintro %_u ⟨H0, Ha, Hb⟩
    isplitl [Ha Hb Hp Hq Hd Hr]
    · iexists _, _, _, _
      isplitr; · ipureintro; exact hJ
      isplitl [Ha]; · iexact Ha
      isplitl [Hb]; · iexact Hb
      isplitl [Hp]; · iexact Hp
      isplitl [Hq]; · iexact Hq
      isplitl [Hd]; · iexact Hd
      iexact Hr
    isplitl [HO]; · iexists W; iexact HO
    iexact H0
  · have hJ := hI.store X t.val (by omega) ht
    rw [hx] at hJ
    iapply runs_wand
    isplitl [H0 Ha Hb Hp Hd HO]
    · iapply run_store c (grid0.coords t) M0 w0 M1 w1 M2 w2 (by rw [b1]; omega) (b2.mpr ht) (b3.mpr (by omega)) (b4.mpr (by omega)) (by rw [b5]; omega) (by rw [b6]; omega)
        (t.val - 16) (by omega) (offset_store t (by omega)) W (X t) a b p
      isplitl [H0]; · iexact H0
      isplitl [Ha]; · iexact Ha
      isplitl [Hb]; · iexact Hb
      isplitl [Hp]; · iexact Hp
      isplitl [Hd]; · iexact Hd
      iexact HO
    iintro %_u ⟨H0, Ha, Hb, Hp, Hd, HO⟩
    isplitl [Ha Hb Hp Hq Hd Hr]
    · iexists _, _, _, _
      isplitr; · ipureintro; exact hJ
      isplitl [Ha]; · iexact Ha
      isplitl [Hb]; · iexact Hb
      isplitl [Hp]; · iexact Hp
      isplitl [Hq]; · iexact Hq
      isplitl [Hd]; · iexact Hd
      iexact Hr
    isplitl [HO]; · iexact HO
    iexact H0

/-- A point of the second half: a block of the result is written. -/
theorem step_write (ht : 24 ≤ t.val) (d : Vec F S3072x384 .f32) :
    iprop(held X c t.val ∗ has c M0 (X t) ∗ has c M1 (U t) ∗ has c M2 d)
    ⊢ runs (F := F) c (grid0.coords t) M0 w0 M1 w1 M2 w2 fun _ =>
        iprop(held X c (t.val + 1) ∗ has c M0 (X t) ∗ has c M1 (U t) ∗ has c M2 (outAt X U t)) := by
  obtain ⟨b1, b2, b3, b4, b5, b6, b7, b8⟩ := branches t
  have hlt : t.val < 48 := t.isLt.trans_eq N_0
  unfold held
  iintro ⟨⟨%a, %b, %p, %q, %hI, Ha, Hb, Hp, Hq, Hd, Hr⟩, H0, H1, H2⟩
  by_cases h0 : t.val = 24
  · have hO : outAt X U t = noisy (leastOf a) (greatestOf b) (X t) (U t) := by
      unfold outAt pic least greatest
      rw [h0] at hI
      rw [if_pos (by omega), pt_val, hI.min_eq (by omega), hI.max_eq (by omega)]; rfl
    rw [h0] at hI
    rw [hO]
    have hJ := hI.turn
    iapply runs_wand
    isplitl [H0 H1 H2 Ha Hb Hq]
    · iapply run_turn c (grid0.coords t) M0 w0 M1 w1 M2 w2 (by rw [b1]; omega) (by rw [b2]; omega) (b5.mpr h0) (b6.mpr ht) (b7.mpr (by omega)) (by rw [b8]; omega) (X t) (U t) d a b q
      isplitl [H0]; · iexact H0
      isplitl [H1]; · iexact H1
      isplitl [H2]; · iexact H2
      isplitl [Ha]; · iexact Ha
      isplitl [Hb]; · iexact Hb
      iexact Hq
    iintro %_u ⟨H0, H1, H2, Ha, Hb, Hq⟩
    isplitl [Ha Hb Hp Hq Hd Hr]
    · iexists _, _, _, _
      isplitr; · ipureintro; rw [h0]; exact hJ
      isplitl [Ha]; · iexact Ha
      isplitl [Hb]; · iexact Hb
      isplitl [Hp]; · iexact Hp
      isplitl [Hq]; · iexact Hq
      isplitl [Hd]; · iexact Hd
      iexact Hr
    isplitl [H0]; · iexact H0
    isplitl [H1]; · iexact H1
    iexact H2
  obtain rfl := hI.numbers (by omega)
  have hJ := hI.later X t.val (by omega)
  by_cases h1 : t.val < 40
  · have hO : outAt X U t = noisy (least X) (greatest X) (X t) (U t) := by
      unfold outAt pic; rw [if_pos h1, pt_val]
    rw [hO]
    iapply runs_wand
    isplitl [H0 H1 H2 Hq]
    · iapply run_write c (grid0.coords t) M0 w0 M1 w1 M2 w2 (by rw [b1]; omega) (by rw [b2]; omega) (by rw [b5]; omega) (b6.mpr ht) (b7.mpr h1) (by rw [b8]; omega) (X t) (U t) d
      isplitl [H0]; · iexact H0
      isplitl [H1]; · iexact H1
      isplitl [H2]; · iexact H2
      iexact Hq
    iintro %_u ⟨H0, H1, H2, Hq⟩
    isplitl [Ha Hb Hp Hq Hd Hr]
    · iexists _, _, _, _
      isplitr; · ipureintro; exact hJ
      isplitl [Ha]; · iexact Ha
      isplitl [Hb]; · iexact Hb
      isplitl [Hp]; · iexact Hp
      isplitl [Hq]; · iexact Hq
      isplitl [Hd]; · iexact Hd
      iexact Hr
    isplitl [H0]; · iexact H0
    isplitl [H1]; · iexact H1
    iexact H2
  · have hk : t.val - 40 < 8 := by omega
    have hO : outAt X U t = noisy (least X) (greatest X) (slab (t.val - 40) hk p) (U t) := by
      unfold outAt pic
      rw [if_neg h1, hI.parked (t.val - 40) hk (by omega), show 16 + (t.val - 40) = t.val - 24 by omega]
    rw [hO]
    obtain ⟨o0, o1, o2, o3, o4, o5⟩ := offset_load t (by omega)
    iapply runs_wand
    isplitl [H1 H2 Hp Hq]
    · iapply run_unpark c (grid0.coords t) M0 w0 M1 w1 M2 w2 (by rw [b1]; omega) (by rw [b2]; omega) (by rw [b5]; omega) (b6.mpr ht) (by rw [b7]; omega) (b8.mpr (by omega))
        (t.val - 40) hk o0 o1 o2 o3 o4 o5 (U t) d
      isplitl [H1]; · iexact H1
      isplitl [H2]; · iexact H2
      isplitl [Hp]; · iexact Hp
      iexact Hq
    iintro %_u ⟨H1, H2, Hp, Hq⟩
    isplitl [Ha Hb Hp Hq Hd Hr]
    · iexists _, _, _, _
      isplitr; · ipureintro; exact hJ
      isplitl [Ha]; · iexact Ha
      isplitl [Hb]; · iexact Hb
      isplitl [Hp]; · iexact Hp
      isplitl [Hq]; · iexact Hq
      isplitl [Hd]; · iexact Hd
      iexact Hr
    isplitl [H0]; · iexact H0
    isplitl [H1]; · iexact H1
    iexact H2

end Cert.KernelIdeal.Park

end
-- ==== Proof.Run.lean ====
/-
  The whole run: the pipeline's proof data, its body obligation from `step_fold` and `step_write`, and the launch.
  Every execution ends with the arguments as they were, the result array at what the 24 write-backs leave, and
  every semaphore at zero (`run_main`).
-/
module

public import proofs.«01_k».proof.Proof.Data
public import Idealize.ShloMosaic.Lib.Pipeline.TalkSched

@[expose] public section

noncomputable section

namespace Cert.KernelIdeal.Park

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.TalkSites (owesAt_elim owesAt_intro)
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The picture's block at a point. -/
abbrev imgBlk (c : Dev nD) : Fin grid0.N → Vec F S3072x384 .f32 := iblk m c 0
/-- The noise's block at a point. -/
abbrev noiseBlk (c : Dev nD) : Fin grid0.N → Vec F S3072x384 .f32 := iblk m c 1

/-- What the body leaves in each staging buffer: the inputs' blocks in place, the output's computed block. -/
def left (c : Dev nD) : (w : Fin cfg0.W) → Fin cfg0.N → (cfg0.win w).block.Idx → Elt F (cfg0.win w).elt
  | ⟨0, _⟩ => imgBlk m c
  | ⟨1, _⟩ => noiseBlk m c
  | ⟨2, _⟩ => outAt (imgBlk m c) (noiseBlk m c)
  | ⟨_ + 3, h⟩ => absurd h (Nat.not_lt.2 (Nat.le_add_left _ _))

/-- The pipeline's proof data: the arrays as the region finds them, the buffers as the body leaves them, the scratch as `held` says. -/
def dats (_ : Fin 1) (c : Dev nD) : Dat τ (Elt F) Unit ℕ (Pipeline.UD sig nD τ) ℕ cfg0 c where
  A w := V m c (Pipeline.arrRef spec0 w)
  after := left m c
  Φ n := held (imgBlk m c) c n.val
  q _ := fullShare
  owed _ := 0

theorem A_eq (c : Dev nD) (w : Fin cfg0.W) : (dats m 0 c).A w = V m c (Pipeline.arrRef spec0 w) := rfl

/-- The picture's buffer holds its block at every point. -/
theorem before_img (c : Dev nD) (t : Fin cfg0.N) (d) : (dats m 0 c).before 0 t d = imgBlk m c t :=
  ((dats m 0 c).before_in_eq_fetched 0 rfl (fun _ => rfl) (fun _ _ _ => rfl) (fun _ => rfl) t d).trans rfl

/-- The noise's buffer holds its block at every point. -/
theorem before_noise (c : Dev nD) (t : Fin cfg0.N) (d) : (dats m 0 c).before 1 t d = noiseBlk m c t :=
  ((dats m 0 c).before_in_eq_fetched 1 rfl (fun _ => rfl) (fun _ _ _ => rfl) (fun _ => rfl) t d).trans rfl

/-- The body table's row at point `t` is the body on the current staging buffers. -/
theorem defs₀_row (t : Fin cfg0.N) : defs₀ (F := F) .tc cfg0.body (cfg0.bodyArgs t (cfg0.slots t)) = bodyAt0 t := by
  unfold defs₀; rw [Defs.onTc_tc]

/-- What the body is handed at a point, and what it hands back. -/
theorem body (c : Dev nD) (t : Fin cfg0.N) :
    iprop((dats m 0 c).Φ t.castSucc ∗ (dats m 0 c).owesAt () t.castSucc
      ∗ (∃ d, has c (st0_0 t) ((dats m 0 c).before 0 t d)) ∗ (∃ d, has c (st0_1 t) ((dats m 0 c).before 1 t d))
      ∗ (∃ d, has c (st0_2 t) ((dats m 0 c).before 2 t d)))
    ⊢ wp frame (wpE (defs₀ (F := F)) Variants.none c none) Set.univ (bodyAt0 (F := F) t) fun _ =>
      iprop((dats m 0 c).Φ t.succ ∗ (dats m 0 c).owesAt () t.succ
        ∗ has c (st0_0 t) (imgBlk m c t) ∗ has c (st0_1 t) (noiseBlk m c t)
        ∗ (match decide (t.val < 24) with
          | true => match decide (24 ≤ t.val) with
            | false => iprop(∃ d, has c (st0_2 t) ((dats m 0 c).before 2 t d))
            | true => has c (st0_2 t) (outAt (imgBlk m c) (noiseBlk m c) t)
          | false => has c (st0_2 t) (outAt (imgBlk m c) (noiseBlk m c) t))) := by
  show iprop(held (imgBlk m c) c t.val ∗ (dats m 0 c).owesAt () t.castSucc ∗ _ ∗ _ ∗ _) ⊢ runs (F := F) c (grid0.coords t) (st0_0 t) _ (st0_1 t) _ (st0_2 t) _
    fun _ => iprop(held (imgBlk m c) c (t.val + 1) ∗ (dats m 0 c).owesAt () t.succ ∗ _ ∗ _ ∗ _)
  iintro ⟨HΦ, HO, ⟨%d0, H0⟩, ⟨%d1, H1⟩, ⟨%d2, H2⟩⟩
  rw [before_img, before_noise]
  ihave HO' := (owesAt_elim (dats m 0 c) () t.castSucc 0 rfl) $$ HO
  icases HO' with ⟨%W, HO⟩
  by_cases ht : t.val < 24
  · rw [decide_eq_true ht, decide_eq_false (by omega : ¬ 24 ≤ t.val)]
    iapply runs_wand
    isplitl [HΦ HO H0]
    · iapply step_fold (imgBlk m c) c t (st0_0 t) _ (st0_1 t) _ (st0_2 t) _ ht
      isplitl [HΦ]; · iexact HΦ
      isplitl [HO]; · iexists W; iexact HO
      iexact H0
    iintro %_u ⟨HΦ, ⟨%W', HO⟩, H0⟩
    isplitl [HΦ]; · iexact HΦ
    isplitl [HO]; · iapply (owesAt_intro (dats m 0 c) () t.succ 0 rfl rfl W') $$ HO
    isplitl [H0]; · iexact H0
    isplitl [H1]; · iexact H1
    iexists d2; iexact H2
  · rw [decide_eq_false ht]
    iapply runs_wand
    isplitl [HΦ H0 H1 H2]
    · iapply step_write (imgBlk m c) (noiseBlk m c) c t (st0_0 t) _ (st0_1 t) _ (st0_2 t) _ (by omega)
      isplitl [HΦ]; · iexact HΦ
      isplitl [H0]; · iexact H0
      isplitl [H1]; · iexact H1
      iexact H2
    iintro %_u ⟨HΦ, H0, H1, H2⟩
    isplitl [HΦ]; · iexact HΦ
    isplitl [HO]; · iapply (owesAt_intro (dats m 0 c) () t.succ 0 rfl rfl W) $$ HO
    isplitl [H0]; · iexact H0
    isplitl [H1]; · iexact H1
    iexact H2

/-- The library's body obligation. -/
theorem body_obligation (c : Dev nD) : BodyObligation (dats (F := F) m 0 c) (defs₀ (F := F)) Variants.none () Set.univ := fun t => by
  rw [bigSep_W0, bigSep_W0, defs₀_row]
  have h := body m c t
  rw [← out_idle t, ← out_flush t] at h
  exact triple_restated h rfl .rfl fun _ => .rfl

/-! ## The launch -/

/-- The kernel's own transfer counter. -/
abbrev osem : Fin 1 → SemLoc sig := fun _ => SemLoc.dma 6

theorem osem_facts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄) = idleDma c := by
  rw [Pipeline.ownSems0_eq_of_list c osem [0] (by decide) (by decide)]; rfl

/-- Owning a whole buffer at known contents is holding it through its memref. -/
theorem whole_in (c : Dev nD) (b : Ref sig .tc) (f : b.ty.Contents (Elt F)) :
    ((c : Thread nD τ).loc b ↦{fullShare} f) ⊢ (has c (Memref.whole b) f : sProp 𝕄) := by unfold has; rw [owns_whole]

theorem whole_out (c : Dev nD) (b : Ref sig .tc) (f : b.ty.Contents (Elt F)) :
    (has c (Memref.whole b) f : sProp 𝕄) ⊢ ((c : Thread nD τ).loc b ↦{fullShare} f) := by unfold has; rw [owns_whole]

/-- Before the first point the scratch may hold anything. -/
theorem enter (c : Dev nD) : Pipeline.ΦD osem spec0 ∅ (V m) c ⊢ ((dats m 0 c).Φ 0 : sProp 𝕄) := by
  show _ ⊢ held (imgBlk m c) c 0
  rw [Pipeline.ΦD_eq, scopedRest0_eq, ownSems_eq, BI.bigSep_empty]
  unfold held
  iintro ⟨⟨⟨%a, Ha⟩, ⟨%b, Hb⟩, ⟨%p, Hp⟩, ⟨%q, Hq⟩⟩, Hr, Hd, -⟩
  iexists a, b, p, q
  isplitr
  · ipureintro
    exact ⟨fun h => absurd h (by omega), fun h => absurd h (by omega), fun k hk h => absurd h (by omega), fun h => absurd h (by omega)⟩
  isplitl [Ha]; · iapply (whole_in c _ a) $$ Ha
  isplitl [Hb]; · iapply (whole_in c _ b) $$ Hb
  isplitl [Hp]; · iapply (whole_in c _ p) $$ Hp
  isplitl [Hq]; · iapply (whole_in c _ q) $$ Hq
  isplitl [Hd]; · iexact Hd
  iexact Hr

/-- After the last point the scratch is given back. -/
theorem leave (c : Dev nD) : ((dats m 0 c).Φ (Fin.last cfg0.N) : sProp 𝕄) ⊢ Pipeline.ΦD osem spec0 ∅ (V m) c := by
  show held (imgBlk m c) c _ ⊢ _
  rw [Pipeline.ΦD_eq, scopedRest0_eq, ownSems_eq, BI.bigSep_empty]
  unfold held
  iintro ⟨%a, %b, %p, %q, -, Ha, Hb, Hp, Hq, Hd, Hr⟩
  isplitl [Ha Hb Hp Hq]
  · isplitl [Ha]; · iexists a; iapply (whole_out c _ a) $$ Ha
    isplitl [Hb]; · iexists b; iapply (whole_out c _ b) $$ Hb
    isplitl [Hp]; · iexists p; iapply (whole_out c _ p) $$ Hp
    iexists q; iapply (whole_out c _ q) $$ Hq
  isplitl [Hr]; · iexact Hr
  isplitl [Hd]; · iexact Hd
  iempintro

set_option maxHeartbeats 800000 in
/-- @main around its one region. -/
theorem main_around : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The host line after the region touches the pipeline's arrays and the bypassing buffers only. -/
theorem suffix_sub : ∀ ops ∈ ([hostOps1] : List (List (HloOp τ sig (Elt F)))), ∀ op ∈ ops,
    op.bufs ⊆ Pipeline.tailRefsBut sig Pipeline.Prefetch.none spec0 ∅ := by
  intro ops hops op hop
  have h := sfx_sub ops hops op hop
  unfold Pipeline.tailRefsBut
  rw [Finset.sdiff_empty]
  exact h

/-- What every execution ends in. -/
abbrev Ends (r : PUnit × MemSt nD τ sig (Elt F)) : Prop :=
  Pipeline.FramePost cfgs (dats m) 0 (Pipeline.afterTail₀ cfgs (dats m) 0 (V0 m) [hostOps1]) r ∧ r.2.sem = (fun _ => 0)

-- the launch theorem's implicit arguments are found by unifying its conclusion with this one
set_option backward.isDefEq.respectTransparency.types false in
/-- The launch. -/
theorem run_main : θ_run defs (onTc (τ := τ) (main (F := F))) (s₀ m ρ) (Ends m) :=
  Pipeline.θ_run_frame_dma_around (Q' := Ends m) cfgs (dats m) (0 : Fin 1) launch0 osem defs₀ Variants.none osem_facts ∅ (Finset.empty_subset _) m ρ main
    (hbody := fun c => (body_obligation m c).loose) (hshare := fun c => (dats m 0 c).share_full fun _ => rfl) (howed := fun _ _ => rfl)
    (V₀ := V0 m) (opss := [hostOps1]) (hsub := suffix_sub) (hfresh := sfx_fresh) (hkeep := sfx_keeps) (hmain := main_around m) (hA := A_eq m)
    (hin := enter m) (hout := leave m) (hQ' := fun _ h => h)

end Cert.KernelIdeal.Park

end
-- ==== Proof.Final.lean ====
/-
  What a run ends in, read at the program's own arrays: the two arguments as launched, every semaphore at zero,
  and the result the reshaped array of the pipeline's output window (`final`).
-/
module

public import proofs.«01_k».proof.Proof.Run

@[expose] public section

noncomputable section

namespace Cert.KernelIdeal.Park

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The buffers' contents after the host line that follows the region. -/
abbrev W (c : Dev nD) (b : Ref sig .tc) : Buf (Elt F) ((c : Thread nD τ).loc b) :=
  Pipeline.afterTail₀ cfgs (dats m) 0 (V0 m) [hostOps1] c b

/-- A buffer that is neither the result nor one of the pipeline's arrays keeps what it held at the region's entry. -/
theorem W_keeps (c : Dev nD) (b : Ref sig .tc) (hr : b ≠ main_v3) (hw : ∀ w, Pipeline.arrRef spec0 w ≠ b) : W m c b = V m c b := by
  unfold W Pipeline.afterTail₀
  refine (StableHlo.reshape_result_ne _ _ _ _ _ _ _ hr).trans ?_
  exact Pipeline.withArrays_of_ne _ c (V0 m c) _ b hw

theorem W_arg0 (c : Dev nD) : W m c main_arg0 = m ((c : Thread nD τ).loc main_arg0) :=
  (W_keeps m c main_arg0 (by decide) (by decide)).trans (V_main_arg0 m c)
theorem W_arg1 (c : Dev nD) : W m c main_arg1 = m ((c : Thread nD τ).loc main_arg1) :=
  (W_keeps m c main_arg1 (by decide) (by decide)).trans (V_main_arg1 m c)

/-- The array the output window leaves. -/
def outArr (c : Dev nD) : Vec F S73728x384 .f32 := (dats m 0 c).arrAt 2 cfg0.N

/-- The host line after the region reshapes the output array into the result. -/
theorem after_reshape (v : Valuation τ sig (Elt F)) : StableHlo.after (List.flatten [hostOps1]) v (Proc.devRef .tc main_v3)
    = (shapeCast S192x384x384 (v (Proc.devRef .tc main_v2) : Vec F S73728x384 .f32) shapeCasts_S73728x384_S192x384x384 : Vec F S192x384x384 .f32) := by
  simp only [hostOps1, List.flatten_cons, List.flatten_nil, List.append_nil]
  after_results
  rfl

/-- The result is the output window's array at the picture's own shape. -/
theorem W_result (c : Dev nD) : W m c main_v3 = shapeCast S192x384x384 (outArr m c) shapeCasts_S73728x384_S192x384x384 := by
  unfold W Pipeline.afterTail₀
  refine (after_reshape _).trans ?_
  refine congrArg (fun x : Vec F S73728x384 .f32 => shapeCast S192x384x384 x shapeCasts_S73728x384_S192x384x384) ?_
  exact Pipeline.withArrays_arr spec0 (by decide) c (V0 m c) _ 2

/-- Every execution ends with the result at the reshaped output array, the arguments as launched, and every semaphore at zero. -/
theorem final : θ_run defs (onTc (τ := τ) (main (F := F))) ⟨m, fun _ => 0, ρ⟩ (fun r => (∀ c : Dev nD,
      r.2.mem ((c.tc : Thread nD τ).loc main_v3) = shapeCast S192x384x384 (outArr m c) shapeCasts_S73728x384_S192x384x384
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v3 (Pipeline.mem_restRefs_of main_v3 (by decide) (by decide))).trans (W_result m c),
     ((h.1 c).2 main_arg0 (Pipeline.mem_restRefs_of main_arg0 (by decide) (by decide))).trans (W_arg0 m c),
     ((h.1 c).2 main_arg1 (Pipeline.mem_restRefs_of main_arg1 (by decide) (by decide))).trans (W_arg1 m c)⟩, h.2⟩) (run_main m ρ)

/-- The frame: the arguments as launched and every semaphore at zero. -/
theorem unharmed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (final m ρ)

end Cert.KernelIdeal.Park

end
-- ==== Proof.Same.lean ====
/-
  The kernel as printed and the kernel as idealized are one program text: their body tables and their main programs
  agree at every float model, so what is proved of the second for any float model holds of the first.
-/
module

public import proofs.«01_k».proof.Defs

@[expose] public section

noncomputable section

namespace Cert.Same

open Idealize.ShloMosaic Idealize.SL.Sem

variable {F : FTy → Type} [FloatOps F] [Cert.KernelIdeal.Facts] [Cert.Kernel.Facts]

/-- The two programs' body tables agree. -/
theorem bodies : Cert.Kernel.defs₀ (F := F) = Cert.KernelIdeal.defs₀ (F := F) := by
  funext x y z
  obtain rfl : y = 0 := Subsingleton.elim _ _
  cases x <;> rfl

/-- And so do the tables with the pipelines added. -/
theorem tables : Cert.Kernel.defs (F := F) = Cert.KernelIdeal.defs (F := F) :=
  congrArg (Pipeline.defs (Cert.KernelIdeal.pcfgs (F := F))) bodies

/-- A run of one is a run of the other. -/
theorem runs (m : (ℓ : Loc Cert.KernelIdeal.nD Cert.KernelIdeal.τ Cert.KernelIdeal.sig) → Buf (Elt F) ℓ)
    (g : Dev Cert.KernelIdeal.nD → PrngReg) (P) :
    θ_run (Cert.Kernel.defs (F := F)) (onTc (τ := Cert.Kernel.τ) (Cert.Kernel.main (F := F))) ⟨m, fun _ => 0, g⟩ P
      = θ_run (Cert.KernelIdeal.defs (F := F)) (onTc (τ := Cert.KernelIdeal.τ) (Cert.KernelIdeal.main (F := F))) ⟨m, fun _ => 0, g⟩ P :=
  congrArg (fun D => θ_run D (onTc (τ := Cert.KernelIdeal.τ) (Cert.KernelIdeal.main (F := F))) ⟨m, fun _ => 0, g⟩ P) tables

end Cert.Same

end
-- ==== Proof.Extremes.lean ====
/-
  Over the extended reals the running arrays bound what they should: `z` is below every running least entry exactly
  when it is below every entry of the blocks folded so far, and above every running greatest entry exactly when it is
  above all of those entries.  So the two numbers the kernel keeps are the least and the greatest entry of the first
  24 blocks (`le_least`, `greatest_le`).
-/
module

public import proofs.«01_k».proof.Proof.Data
public import Idealize.ShloMosaic.PureOps.Ideal
public import Idealize.ShloMosaic.PureOps.Reduce
public import Idealize.ShloMosaic.PureOps.Ideal.Laws
public import Idealize.ShloMosaic.Lib.ValueIdx

@[expose] public section

noncomputable section

namespace Cert.KernelIdeal.Park

open Cert.KernelIdeal Cert.KernelIdeal.Gen
open Idealize.ShloMosaic

/-! ## The two infinities -/

theorem word_top : (FloatOps.ofBits .f32 0x7F800000#32 : Ideal .f32) = (⊤ : EReal) := by
  show Ideal.ofBits .f32 0x7F800000#32 = ⊤
  simp [Ideal.ofBits, Ideal.ieee]

theorem word_bot : (FloatOps.ofBits .f32 0xFF800000#32 : Ideal .f32) = (⊥ : EReal) := by
  show Ideal.ofBits .f32 0xFF800000#32 = ⊥
  simp [Ideal.ofBits, Ideal.ieee]

/-! ## Reductions -/

/-- Below every entry of a least-entry reduction is below every entry of what is reduced. -/
theorem le_reduce {s t : Shape} {axes : List (Fin s.rank)} (src : FVec Ideal s .f32) (h : s.Reduces axes t) (hφ) (hacc) (z : EReal) :
    (∀ j, z ≤ multiReduction .minimumf axes t src 0x7F800000#32 h hφ hacc j) ↔ ∀ i, z ≤ src i := by
  have e : ∀ j, z ≤ multiReduction .minimumf axes t src 0x7F800000#32 h hφ hacc j ↔ ∀ i, h.drop i = j → z ≤ src i := fun j => by
    rw [multiReduction_minimumf_eq_fold, word_top]
    exact Finset.le_fold_min z |>.trans (by simp)
  exact ⟨fun H i => (e _).1 (H _) i rfl, fun H j => (e j).2 fun i _ => H i⟩

/-- Above every entry of a greatest-entry reduction is above every entry of what is reduced. -/
theorem reduce_le {s t : Shape} {axes : List (Fin s.rank)} (src : FVec Ideal s .f32) (h : s.Reduces axes t) (hφ) (hacc) (z : EReal) :
    (∀ j, multiReduction .maximumf axes t src 0xFF800000#32 h hφ hacc j ≤ z) ↔ ∀ i, src i ≤ z := by
  have e : ∀ j, multiReduction .maximumf axes t src 0xFF800000#32 h hφ hacc j ≤ z ↔ ∀ i, h.drop i = j → src i ≤ z := fun j => by
    rw [multiReduction_maximumf_eq_fold, word_bot]
    exact Finset.fold_max_le z |>.trans (by simp)
  exact ⟨fun H i => (e _).1 (H _) i rfl, fun H j => (e j).2 fun i _ => H i⟩

/-- A property of every entry does not see a reshape. -/
theorem forall_reshape {s t : Shape} {α : Type} (x : s.Idx → α) (h : s.ShapeCasts t) (P : α → Prop) :
    (∀ j, P (shapeCast t x h j)) ↔ ∀ i, P (x i) :=
  ((Shape.reshapeEquiv h).surjective.forall (p := fun i => P (x i))).symm

/-! ## Chunks, blocks, the whole fold -/

/-- A property of every entry of a block, chunk by chunk. -/
theorem forall_rows (x : Vec Ideal S3072x384 .f32) (P : EReal → Prop) :
    (∀ i, P (x i)) ↔ (∀ i, P (rows 0 inb_S3072x384_S512x384_0_0 x i)) ∧ (∀ i, P (rows 512 inb_S3072x384_S512x384_512_0 x i))
      ∧ (∀ i, P (rows 1024 inb_S3072x384_S512x384_1024_0 x i)) ∧ (∀ i, P (rows 1536 inb_S3072x384_S512x384_1536_0 x i))
      ∧ (∀ i, P (rows 2048 inb_S3072x384_S512x384_2048_0 x i)) ∧ (∀ i, P (rows 2560 inb_S3072x384_S512x384_2560_0 x i)) := by
  refine ⟨fun H => ⟨fun _ => H _, fun _ => H _, fun _ => H _, fun _ => H _, fun _ => H _, fun _ => H _⟩, fun ⟨h0, h1, h2, h3, h4, h5⟩ i => ?_⟩
  have key : ∀ (n : Nat) (h) (_ : ∀ i, P (rows n h x i)), n ≤ (i 0).val → (i 0).val < n + 512 → P (x i) := fun n h H ha hb => by
    have := H (ValueIdx.ix2 ⟨(i 0).val - n, by omega⟩ ⟨(i 1).val, (i 1).isLt⟩)
    refine (congrArg (fun y => P (x y)) (funext fun a => Fin.ext ?_)).mp this
    fin_cases a
    · show n + 1 * ((i 0).val - n) = (i 0).val; omega
    · show 0 + 1 * (i 1).val = (i 1).val; omega
  have hi : (i 0).val < 3072 := (i 0).isLt
  rcases Nat.lt_or_ge (i 0).val 512 with g | g
  · exact key 0 _ h0 (by omega) (by omega)
  rcases Nat.lt_or_ge (i 0).val 1024 with g | g
  · exact key 512 _ h1 (by omega) (by omega)
  rcases Nat.lt_or_ge (i 0).val 1536 with g | g
  · exact key 1024 _ h2 (by omega) (by omega)
  rcases Nat.lt_or_ge (i 0).val 2048 with g | g
  · exact key 1536 _ h3 (by omega) (by omega)
  rcases Nat.lt_or_ge (i 0).val 2560 with g | g
  · exact key 2048 _ h4 (by omega) (by omega)
  · exact key 2560 _ h5 (by omega) (by omega)

theorem le_minStep (y : Vec Ideal S512x384 .f32) (a : Vec Ideal S8x384 .f32) (z : EReal) :
    (∀ j, z ≤ minStep y a j) ↔ (∀ i, z ≤ y i) ∧ ∀ j, z ≤ a j := by
  rw [← forall_reshape y shapeCasts_S512x384_S64x8x384 (fun v : EReal => z ≤ v), ← le_reduce _ reduces_S64x8x384_S8x384 (.inl rfl) rfl, ← forall_and]
  exact forall_congr' fun j => le_min_iff.trans and_comm

theorem maxStep_le (y : Vec Ideal S512x384 .f32) (a : Vec Ideal S8x384 .f32) (z : EReal) :
    (∀ j, maxStep y a j ≤ z) ↔ (∀ i, y i ≤ z) ∧ ∀ j, a j ≤ z := by
  rw [← forall_reshape y shapeCasts_S512x384_S64x8x384 (fun v : EReal => v ≤ z), ← reduce_le _ reduces_S64x8x384_S8x384 (.inl rfl) rfl, ← forall_and]
  exact forall_congr' fun j => max_le_iff.trans and_comm

/-- A whole block folded, for a step that adds its chunk's entries to what `P` is asked of. -/
theorem foldBlock_all (step) (P : EReal → Prop)
    (hs : ∀ (y : Vec Ideal S512x384 .f32) (a : Vec Ideal S8x384 .f32), (∀ j, P (step y a j)) ↔ (∀ i, P (y i)) ∧ ∀ j, P (a j))
    (x : Vec Ideal S3072x384 .f32) (a : Vec Ideal S8x384 .f32) : (∀ j, P (foldBlock step x a j)) ↔ (∀ i, P (x i)) ∧ ∀ j, P (a j) := by
  unfold foldBlock
  rw [hs, hs, hs, hs, hs, hs, forall_rows x P]
  tauto

variable (X : Fin grid0.N → Vec Ideal S3072x384 .f32)

theorem le_accMin (z : EReal) (n : Nat) : (∀ j, z ≤ accMin X n j) ↔ ∀ k < n, ∀ i, z ≤ X (pt k) i := by
  induction n with
  | zero => exact ⟨fun _ k hk => absurd hk (Nat.not_lt_zero k), fun _ j => le_top.trans_eq word_top.symm⟩
  | succ n ih =>
    refine (foldBlock_all minStep (z ≤ ·) (fun y a => le_minStep y a z) (X (pt n)) (accMin X n)).trans ?_
    rw [ih]
    exact ⟨fun ⟨h, H⟩ k hk => (Nat.lt_succ_iff_lt_or_eq.1 hk).elim (H k) fun e => e ▸ h, fun H => ⟨H n (Nat.lt_succ_self n), fun k hk => H k (Nat.lt_succ_of_lt hk)⟩⟩

theorem accMax_le (z : EReal) (n : Nat) : (∀ j, accMax X n j ≤ z) ↔ ∀ k < n, ∀ i, X (pt k) i ≤ z := by
  induction n with
  | zero => exact ⟨fun _ k hk => absurd hk (Nat.not_lt_zero k), fun _ j => word_bot.le.trans bot_le⟩
  | succ n ih =>
    refine (foldBlock_all maxStep (· ≤ z) (fun y a => maxStep_le y a z) (X (pt n)) (accMax X n)).trans ?_
    rw [ih]
    exact ⟨fun ⟨h, H⟩ k hk => (Nat.lt_succ_iff_lt_or_eq.1 hk).elim (H k) fun e => e ▸ h, fun H => ⟨H n (Nat.lt_succ_self n), fun k hk => H k (Nat.lt_succ_of_lt hk)⟩⟩

/-- An array of one entry read at its one position. -/
theorem extract_one (v : Vec Ideal S1 .f32) (P : EReal → Prop) :
    P (extractAt ![0, 0, 0] (shapeCast S1x1x1 v shapeCasts_S1_S1x1x1) inpos_S1x1x1_p0_0_0) ↔ ∀ j, P (v j) := by
  have hs : ∀ j j' : S1.Idx, j = j' := fun j j' => funext fun a => by fin_cases a; exact Subsingleton.elim (α := Fin 1) _ _
  exact ⟨fun h j => (hs _ j) ▸ h, fun H => H _⟩

/-- The first number is the least entry of the first 24 blocks. -/
theorem le_least (z : EReal) : z ≤ least X ↔ ∀ k < 24, ∀ i, z ≤ X (pt k) i := by
  unfold least leastOf
  exact (extract_one _ (z ≤ ·)).trans ((le_reduce _ _ _ _ z).trans ((forall_reshape _ _ (fun v : EReal => z ≤ v)).trans (le_accMin X z 24)))

/-- The second number is their greatest entry. -/
theorem greatest_le (z : EReal) : greatest X ≤ z ↔ ∀ k < 24, ∀ i, X (pt k) i ≤ z := by
  unfold greatest greatestOf
  exact (extract_one _ (· ≤ z)).trans ((reduce_le _ _ _ _ z).trans ((forall_reshape _ _ (fun v : EReal => v ≤ z)).trans (accMax_le X z 24)))

end Cert.KernelIdeal.Park

end
-- ==== Proof.Tiles.lean ====
/-
  The blocks as tiles of the flat arrays.  Block `k` of a 73728 × 384 array is its rows from 3072 k on (`tile`); the
  windows' blocks are tiles of the flat picture and the flat noise, the 24 tiles cover the array, and so the array
  the output window leaves is salt and pepper put into the flat picture everywhere (`outArr_eq`).
-/
module

public import proofs.«01_k».proof.Proof.Final
public import Idealize.ShloMosaic.Lib.Pipeline.ValueKit.Geometry
public import Idealize.ShloMosaic.Lib.ValueIdx

@[expose] public section

noncomputable section

namespace Cert.KernelIdeal.Park

open Cert.KernelIdeal Cert.KernelIdeal.Gen
open Idealize.ShloMosaic Idealize.ShloMosaic.TcCoe
open Idealize.ShloMosaic.Pipeline (Dat)

variable {F : FTy → Type} [FloatOps F]

/-- Tile `k` of a flat array: its 3072 rows from row 3072 k on. -/
def tile (k : Fin 24) (A : Vec F S73728x384 .f32) : Vec F S3072x384 .f32 :=
  fun y => A (ValueIdx.ix2 ⟨k.val * 3072 + (y 0).val, by have := k.isLt; have : (y 0).val < 3072 := (y 0).isLt; omega⟩ ⟨(y 1).val, (y 1).isLt⟩)

/-- A property of every entry, tile by tile. -/
theorem forall_tile (A : Vec F S73728x384 .f32) (P : F .f32 → Prop) : (∀ i, P (A i)) ↔ ∀ k i, P (tile k A i) := by
  refine ⟨fun H k i => H _, fun H i => ?_⟩
  have hi : (i 0).val < 73728 := (i 0).isLt
  have := H ⟨(i 0).val / 3072, by omega⟩ (ValueIdx.ix2 ⟨(i 0).val % 3072, Nat.mod_lt _ (by decide)⟩ ⟨(i 1).val, (i 1).isLt⟩)
  refine (congrArg (fun y => P (A y)) (funext fun a => Fin.ext ?_)).mp this
  fin_cases a
  · show (i 0).val / 3072 * 3072 + (i 0).val % 3072 = (i 0).val; omega
  · rfl

/-- Which tile of the picture a point fetches. -/
def imgTile (n : Nat) : Fin 24 := ⟨if n < 24 then n else min (n - 24) 15, by split <;> omega⟩
/-- Which tile of the noise a point fetches, and which tile of the output it writes. -/
def outTile (n : Nat) : Fin 24 := ⟨(n - 24) % 24, Nat.mod_lt _ (by decide)⟩

theorem index_img : ∀ t : Fin grid0.N, win0_0.index t = ![(imgTile t.val).val, 0] := by decide +kernel
theorem index_noise : ∀ t : Fin grid0.N, win0_1.index t = ![(outTile t.val).val, 0] := by decide +kernel
theorem index_out : ∀ t : Fin grid0.N, win0_2.index t = ![(outTile t.val).val, 0] := by decide +kernel

variable (m : (ℓ : Loc nD τ sig) → Buf (Elt F) ℓ)

/-- The picture and the noise as flat arrays. -/
abbrev flatImg (c : Dev nD) : Vec F S73728x384 .f32 := V m c main_v0
abbrev flatNoise (c : Dev nD) : Vec F S73728x384 .f32 := V m c main_v1

theorem imgBlk_eq (c : Dev nD) (t : Fin grid0.N) : imgBlk m c t = tile (imgTile t.val) (flatImg m c) := by
  funext y
  blk_simp [imgBlk, iblk]
  unfold tile
  refine congrArg (V m c main_v0) ?_
  blk_ext [index_img]

theorem noiseBlk_eq (c : Dev nD) (t : Fin grid0.N) : noiseBlk m c t = tile (outTile t.val) (flatNoise m c) := by
  funext y
  blk_simp [noiseBlk, iblk]
  unfold tile
  refine congrArg (V m c main_v1) ?_
  blk_ext [index_noise]

/-- The picture's block a point of the second half writes out, fetched or parked, is the tile it writes. -/
theorem pic_eq (c : Dev nD) (n : Nat) (h0 : 24 ≤ n) (h1 : n < 48) : pic (imgBlk m c) n = tile (outTile n) (flatImg m c) := by
  unfold pic
  split
  · rw [imgBlk_eq]
    refine congrArg (fun k => tile k (flatImg m c)) (Fin.ext ?_)
    show (if n % 48 < 24 then n % 48 else min (n % 48 - 24) 15) = (n - 24) % 24
    rw [if_neg (by omega)]; omega
  · rw [imgBlk_eq]
    refine congrArg (fun k => tile k (flatImg m c)) (Fin.ext ?_)
    show (if (n - 24) % 48 < 24 then (n - 24) % 48 else min ((n - 24) % 48 - 24) 15) = (n - 24) % 24
    rw [if_pos (by omega)]; omega

/-- The output window leaves salt and pepper in the flat picture, with the least and the greatest entry the first half found. -/
theorem outArr_eq (c : Dev nD) :
    outArr m c = noisy (least (imgBlk m c)) (greatest (imgBlk m c)) (flatImg m c) (flatNoise m c) := by
  refine (dats m 0 c).arrAt_eq_of_covers 2 _ (by decide +kernel) fun t hf y => ?_
  have ht : 24 ≤ t.val := of_decide_eq_true ((out_flush t).symm.trans hf)
  have hN : t.val < 48 := t.isLt.trans_eq N_0
  have e : (dats m 0 c).after 2 t
      = tile (outTile t.val) (noisy (least (imgBlk m c)) (greatest (imgBlk m c)) (flatImg m c) (flatNoise m c)) := by
    show noisy _ _ (pic (imgBlk m c) t.val) (noiseBlk m c t) = _
    rw [pic_eq m c t.val ht hN, noiseBlk_eq]; rfl
  blk_simp
  refine (congrFun e y).trans ?_
  unfold tile
  refine congrArg (noisy (least (imgBlk m c)) (greatest (imgBlk m c)) (flatImg m c) (flatNoise m c)) ?_
  blk_ext [index_out]

end Cert.KernelIdeal.Park

end
-- ==== Proof.Answer.lean ====
/-
  The equation: over the extended reals the kernel's result is the reference's value of the same two arguments.

  The two numbers agree because each is the least (the greatest) of the same set of entries: the 24 tiles of the flat
  picture are the whole picture.  Given the two numbers, salt and pepper acts entry by entry, so the reshape to the
  flat arrays and the reshape back cancel.
-/
module

public import proofs.«01_k».proof.Proof.Extremes
public import proofs.«01_k».proof.Proof.Tiles
public import Idealize.ShloMosaic.Lib.IdealHost

@[expose] public section

noncomputable section

namespace Cert.KernelIdeal.Park

open Cert.KernelIdeal Cert.KernelIdeal.Gen
open Idealize.ShloMosaic Idealize.ShloMosaic.TcCoe

/-! ## What the region finds -/

section
variable {F : FTy → Type} [FloatOps F] (m : (ℓ : Loc nD τ sig) → Buf (Elt F) ℓ)

/-- The picture and the noise as launched. -/
abbrev img (c : Dev nD) : Vec F S192x384x384 .f32 := m ((c : Thread nD τ).loc main_arg0)
abbrev noise (c : Dev nD) : Vec F S192x384x384 .f32 := m ((c : Thread nD τ).loc main_arg1)

theorem flatImg_eq (c : Dev nD) : flatImg m c = shapeCast S73728x384 (img m c) shapeCasts_S192x384x384_S73728x384 := by
  unfold flatImg V V0
  simp only [hostOps0, List.flatten_cons, List.flatten_nil, List.append_nil]
  after_results
  rfl

theorem flatNoise_eq (c : Dev nD) : flatNoise m c = shapeCast S73728x384 (noise m c) shapeCasts_S192x384x384_S73728x384 := by
  unfold flatNoise V V0
  simp only [hostOps0, List.flatten_cons, List.flatten_nil, List.append_nil]
  after_results
  rfl

/-- The result is salt and pepper put into the picture, with the two numbers the first half found. -/
theorem result_noisy (c : Dev nD) : shapeCast S192x384x384 (outArr m c) shapeCasts_S73728x384_S192x384x384
    = noisy (least (imgBlk m c)) (greatest (imgBlk m c)) (img m c) (noise m c) := by
  rw [outArr_eq, flatImg_eq, flatNoise_eq]
  show noisy _ _ (shapeCast S192x384x384 (shapeCast S73728x384 (img m c) _) _) (shapeCast S192x384x384 (shapeCast S73728x384 (noise m c) _) _) = _
  rw [shapeCast_shapeCast, shapeCast_shapeCast]

/-- The blocks of the first 24 points are the whole picture. -/
theorem forall_blocks (c : Dev nD) (P : F .f32 → Prop) : (∀ k < 24, ∀ i, P (imgBlk m c (pt k) i)) ↔ ∀ i, P (img m c i) := by
  have e : ∀ k (hk : k < 24), imgBlk m c (pt k) = tile ⟨k, hk⟩ (flatImg m c) := fun k hk => by
    rw [imgBlk_eq]
    refine congrArg (fun k => tile k (flatImg m c)) (Fin.ext ?_)
    show (if k % 48 < 24 then k % 48 else min (k % 48 - 24) 15) = k
    rw [if_pos (by omega)]; omega
  have h := (forall_tile (flatImg m c) P).symm
  rw [flatImg_eq] at h
  refine Iff.trans ?_ (h.trans (forall_reshape (img m c) _ P))
  rw [← flatImg_eq]
  exact ⟨fun H k i => by have := H k.val k.isLt i; rwa [e k.val k.isLt] at this, fun H k hk i => by rw [e k hk]; exact H ⟨k, hk⟩ i⟩
end

/-! ## The reference's two numbers -/

section
variable {s u : Shape} {axes : List (Fin s.rank)} (x : FVec Ideal s .f32)

/-- Below a whole array's least entry is below every entry. -/
theorem le_whole (h : s.ReducesTo axes ⟨0, ![]⟩) (hu : 0 < u.numel) (j) (z : EReal) :
    z ≤ Host.reduce FloatOps.minimumf x (constant u .f32 0x7F800000#32 : FVec Ideal u .f32) h hu j ↔ ∀ i, z ≤ x i := by
  rw [Host.reduce_eq_fold]
  refine (Finset.le_fold_min (β := EReal) z).trans ⟨fun H i => H.2 i (Finset.mem_filter.2 ⟨Finset.mem_univ _, funext fun a => a.elim0⟩), fun H => ⟨?_, fun i _ => H i⟩⟩
  exact le_top.trans_eq word_top.symm

/-- Above a whole array's greatest entry is above every entry. -/
theorem whole_le (h : s.ReducesTo axes ⟨0, ![]⟩) (hu : 0 < u.numel) (j) (z : EReal) :
    Host.reduce FloatOps.maximumf x (constant u .f32 0xFF800000#32 : FVec Ideal u .f32) h hu j ≤ z ↔ ∀ i, x i ≤ z := by
  rw [Host.reduce_eq_fold]
  refine (Finset.fold_max_le (β := EReal) z).trans ⟨fun H i => H.2 i (Finset.mem_filter.2 ⟨Finset.mem_univ _, funext fun a => a.elim0⟩), fun H => ⟨?_, fun i _ => H i⟩⟩
  exact word_bot.le.trans bot_le
end

/-! ## The equation -/

variable (m : (ℓ : Loc nD τ sig) → Buf (Elt Ideal) ℓ)

/-- One number put everywhere. -/
theorem everywhere {F : FTy → Type} [FloatOps F] {T : Shape} (h : (⟨0, ![]⟩ : Shape).BroadcastsInDim T ![]) (v : FVec F ⟨0, ![]⟩ .f32) :
    broadcastInDim T ![] h v = broadcast T (v ValueIdx.ix0) := funext fun j => ValueIdx.broadcastInDim_scalar_apply h v j

/-- The kernel's result is the reference's value of the picture and the noise. -/
theorem result_eq (c : Dev nD) (h : S192x384x384.ReducesTo [0, 1, 2] ⟨0, ![]⟩) (hu : 0 < (⟨0, ![]⟩ : Shape).numel)
    (hb : (⟨0, ![]⟩ : Shape).BroadcastsInDim S192x384x384 ![]) :
    shapeCast S192x384x384 (outArr m c) shapeCasts_S73728x384_S192x384x384
      = select (cmpf .ogt (noise m c) (broadcastInDim S192x384x384 ![] hb (constant ⟨0, ![]⟩ .f32 0x3F666666#32)))
          (broadcastInDim S192x384x384 ![] hb (Host.reduce FloatOps.maximumf (img m c) (constant ⟨0, ![]⟩ .f32 0xFF800000#32) h hu))
          (select (cmpf .olt (noise m c) (broadcastInDim S192x384x384 ![] hb (constant ⟨0, ![]⟩ .f32 0x3DCCCCCD#32)))
            (broadcastInDim S192x384x384 ![] hb (Host.reduce FloatOps.minimumf (img m c) (constant ⟨0, ![]⟩ .f32 0x7F800000#32) h hu))
            (img m c)) := by
  have lo : least (imgBlk m c) = Host.reduce FloatOps.minimumf (img m c) (constant ⟨0, ![]⟩ .f32 0x7F800000#32) h hu ValueIdx.ix0 :=
    eq_of_forall_le_iff (α := EReal) fun z => (le_least (imgBlk m c) z).trans ((forall_blocks m c (fun v : EReal => z ≤ v)).trans (le_whole (img m c) h hu _ z).symm)
  have hi : greatest (imgBlk m c) = Host.reduce FloatOps.maximumf (img m c) (constant ⟨0, ![]⟩ .f32 0xFF800000#32) h hu ValueIdx.ix0 :=
    eq_of_forall_ge_iff (α := EReal) fun z => (greatest_le (imgBlk m c) z).trans ((forall_blocks m c (fun v : EReal => v ≤ z)).trans (whole_le (img m c) h hu _ z).symm)
  rw [result_noisy, lo, hi, everywhere, everywhere, everywhere, everywhere]
  rfl

end Cert.KernelIdeal.Park

end
-- ==== Proof.lean ====
/-
  The proof of `Cert.Claim`: the frames of the kernel, of its idealization and of the reference, and that the
  idealized kernel and the reference end with the same array.

  The kernel's frame and final state are proved once, for any float model, of the idealized program's text
  (Proof/Final.lean); the printed kernel is the same text (Proof/Same.lean).  The value is Proof/Answer.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Answer
public import Idealize.ShloMosaic.Adequacy
public import Idealize.ShloMosaic.Init

@[expose] public section

noncomputable section

namespace Cert.Proof

open Idealize.ShloMosaic Idealize.SL.Sem

/-- The printed kernel's frame. -/
theorem frame_kernel : @Cert.quiescent_Kernel Cert.Kernel.Gen.facts := by
  letI := Cert.Kernel.Gen.facts
  letI := Cert.KernelIdeal.Gen.facts
  intro m g _
  exact (Cert.Same.runs (F := Bits) m g _).mpr (Cert.KernelIdeal.Park.unharmed (F := Bits) m g)

/-- The idealized kernel's frame. -/
theorem frame_ideal : @Cert.quiescent_KernelIdeal Cert.KernelIdeal.Gen.facts := fun m g _ =>
  Cert.KernelIdeal.Park.unharmed (F := Ideal) m g

/-- The reference's frame: it has no semaphore. -/
theorem frame_reference : @Cert.quiescent_ReferenceIdeal Cert.ReferenceIdeal.Gen.facts := fun m g _ =>
  (θ_run Cert.ReferenceIdeal.defs _ _).mono
    (fun r h => ⟨fun c => (h c).2, sem_eq_zero_of_no_sems (by decide) r.2⟩) (Cert.ReferenceIdeal.Value.run (F := Ideal) m g)

/-- Kernel and reference end with the same array, as extended reals. -/
theorem same_value : @Cert.algebraic_KernelIdeal_ReferenceIdeal Cert.KernelIdeal.Gen.facts Cert.ReferenceIdeal.Gen.facts := by
  intro m g m' g' _ hargs
  refine ⟨fun c => shapeCast _ (Cert.KernelIdeal.Park.outArr m c) Cert.KernelIdeal.Gen.facts.shapeCasts_S73728x384_S192x384x384, ?_, ?_⟩
  · exact (θ_run (@Cert.KernelIdeal.defs Ideal _ Cert.KernelIdeal.Gen.facts) _ _).mono (fun _ h => h.1) (Cert.KernelIdeal.Park.final (F := Ideal) m g)
  · refine (θ_run Cert.ReferenceIdeal.defs _ _).mono (fun r h c => ⟨(h c).1.trans ?_, (h c).2⟩)
      (Cert.ReferenceIdeal.Value.run (F := Ideal) m' g')
    rw [(hargs c).1, (hargs c).2]
    exact (Cert.KernelIdeal.Park.result_eq m c _ _ _).symm

theorem claim : Cert.Claim := ⟨Cert.Kernel.Gen.facts, Cert.KernelIdeal.Gen.facts, Cert.ReferenceIdeal.Gen.facts,
  frame_kernel, frame_ideal, frame_reference, trivial, same_value⟩

end Cert.Proof

end
